-- ==== Defs.lean ====
def Pre_Kernel (m : (ℓ : Loc Cert.Kernel.nD Cert.Kernel.τ Cert.Kernel.sig) → Buf (Elt Bits) ℓ) : Prop :=
  True

def Pre_KernelIdeal [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal) (hPre_finite_arguments := hPre_finite_arguments)
    ∧ quiescent_KernelIdeal_pre_none (hKernelIdeal := hKernelIdeal)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal (hKernelIdeal := hKernelIdeal) (hReferenceIdeal := hReferenceIdeal) (hPre_finite_arguments := hPre_finite_arguments)
-- ==== Pre_finite_arguments.lean ====
abbrev S1x2048x1024 : Shape := ⟨3, ![1, 2048, 1024]⟩
abbrev S1x8x128 : Shape := ⟨3, ![1, 8, 128]⟩
abbrev S1024x64 : Shape := ⟨2, ![1024, 64]⟩
abbrev S64 : Shape := ⟨1, ![64]⟩
abbrev S1024x400 : Shape := ⟨2, ![1024, 400]⟩
abbrev S400 : Shape := ⟨1, ![400]⟩
abbrev S8x128x64 : Shape := ⟨3, ![8, 128, 64]⟩
abbrev S8x400x512 : Shape := ⟨3, ![8, 400, 512]⟩
abbrev S8x128x512 : Shape := ⟨3, ![8, 128, 512]⟩
abbrev S8x128x128 : Shape := ⟨3, ![8, 128, 128]⟩
abbrev S8x512x128 : Shape := ⟨3, ![8, 512, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1x8x128 : S_.BroadcastsInDim S1x8x128 (![] : Fin 0 → Fin S1x8x128.rank)
  reducesTo_S1x8x128_S_d0_1_2 : S1x8x128.ReducesTo [0, 1, 2] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S8x128x64 : S_.BroadcastsInDim S8x128x64 (![] : Fin 0 → Fin S8x128x64.rank)
  reducesTo_S8x128x64_S_d0_1_2 : S8x128x64.ReducesTo [0, 1, 2] S_
  bcast_S_S8x128x128 : S_.BroadcastsInDim S8x128x128 (![] : Fin 0 → Fin S8x128x128.rank)
  reducesTo_S8x128x128_S_d0_1_2 : S8x128x128.ReducesTo [0, 1, 2] S_
  bcast_S_S8x128x512 : S_.BroadcastsInDim S8x128x512 (![] : Fin 0 → Fin S8x128x512.rank)
  reducesTo_S8x128x512_S_d0_1_2 : S8x128x512.ReducesTo [0, 1, 2] S_
  bcast_S_S8x512x128 : S_.BroadcastsInDim S8x512x128 (![] : Fin 0 → Fin S8x512x128.rank)
  reducesTo_S8x512x128_S_d0_1_2 : S8x512x128.ReducesTo [0, 1, 2] S_

variable [Facts]

def fn_part2 {F : FTy → Type} [FloatOps F] (main_arg12 : FVec F S8x128x512 .f32) (main_arg13 : FVec F S8x512x128 .f32) (main_v33 : IVec S_ 1) : IVec S_ 1 :=
  let main_v34 : FVec F S8x128x512 .f32 := Host.absf main_arg12
  let main_cst_12 : FVec F S_ .f32 := constant S_ .f32 0x7F800000#32
  let main_v35 : FVec F S8x128x512 .f32 := broadcastInDim S8x128x512 ![] bcast_S_S8x128x512 main_cst_12
  let main_v36 : IVec S8x128x512 1 := cmpf .olt main_v34 main_v35
  let main_c_13 : IVec S_ 1 := constantI S_ 1 1#1
  let main_v37 : IVec S_ 1 := (fun x v => Host.reduce IntOp.andi x v reducesTo_S8x128x512_S_d0_1_2 h_S_) main_v36 main_c_13
  let main_v38 : IVec S_ 1 := andi main_v33 main_v37
  let main_v39 : FVec F S8x512x128 .f32 := Host.absf main_arg13
  let main_cst_14 : FVec F S_ .f32 := constant S_ .f32 0x7F800000#32
  let main_v40 : FVec F S8x512x128 .f32 := broadcastInDim S8x512x128 ![] bcast_S_S8x512x128 main_cst_14
  let main_v41 : IVec S8x512x128 1 := cmpf .olt main_v39 main_v40
  let main_c_15 : IVec S_ 1 := constantI S_ 1 1#1
  let main_v42 : IVec S_ 1 := (fun x v => Host.reduce IntOp.andi x v reducesTo_S8x512x128_S_d0_1_2 h_S_) main_v41 main_c_15
  let main_v43 : IVec S_ 1 := andi main_v38 main_v42
  main_v43

def fn_part1 {F : FTy → Type} [FloatOps F] (main_arg7 : FVec F S8x128x64 .f32) (main_arg10 : FVec F S8x128x128 .f32) (main_arg11 : FVec F S8x128x128 .f32) (main_arg12 : FVec F S8x128x512 .f32) (main_arg13 : FVec F S8x512x128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S8x128x64 .f32 := Host.absf main_arg7
  let main_cst_6 : FVec F S_ .f32 := constant S_ .f32 0x7F800000#32
  let main_v20 : FVec F S8x128x64 .f32 := broadcastInDim S8x128x64 ![] bcast_S_S8x128x64 main_cst_6
  let main_v21 : IVec S8x128x64 1 := cmpf .olt main_v19 main_v20
  let main_c_7 : IVec S_ 1 := constantI S_ 1 1#1
  let main_v22 : IVec S_ 1 := (fun x v => Host.reduce IntOp.andi x v reducesTo_S8x128x64_S_d0_1_2 h_S_) main_v21 main_c_7
  let main_v23 : IVec S_ 1 := andi main_v18 main_v22
  let main_v24 : FVec F S8x128x128 .f32 := Host.absf main_arg10
  let main_cst_8 : FVec F S_ .f32 := constant S_ .f32 0x7F800000#32
  let main_v25 : FVec F S8x128x128 .f32 := broadcastInDim S8x128x128 ![] bcast_S_S8x128x128 main_cst_8
  let main_v26 : IVec S8x128x128 1 := cmpf .olt main_v24 main_v25
  let main_c_9 : IVec S_ 1 := constantI S_ 1 1#1
  let main_v27 : IVec S_ 1 := (fun x v => Host.reduce IntOp.andi x v reducesTo_S8x128x128_S_d0_1_2 h_S_) main_v26 main_c_9
  let main_v28 : IVec S_ 1 := andi main_v23 main_v27
  let main_v29 : FVec F S8x128x128 .f32 := Host.absf main_arg11
  let main_cst_10 : FVec F S_ .f32 := constant S_ .f32 0x7F800000#32
  let main_v30 : FVec F S8x128x128 .f32 := broadcastInDim S8x128x128 ![] bcast_S_S8x128x128 main_cst_10
  let main_v31 : IVec S8x128x128 1 := cmpf .olt main_v29 main_v30
  let main_c_11 : IVec S_ 1 := constantI S_ 1 1#1
  let main_v32 : IVec S_ 1 := (fun x v => Host.reduce IntOp.andi x v reducesTo_S8x128x128_S_d0_1_2 h_S_) main_v31 main_c_11
  let main_v33 : IVec S_ 1 := andi main_v28 main_v32
  fn_part2 (F := F) main_arg12 main_arg13 main_v33

def fn {F : FTy → Type} [FloatOps F] (main_arg0 : FVec F S1x2048x1024 .f32) (main_arg1 : FVec F S1x8x128 .f32) (main_arg2 : FVec F S1x8x128 .f32) (main_arg3 : FVec F S1024x64 .f32) (main_arg4 : FVec F S64 .f32) (main_arg5 : FVec F S1024x400 .f32) (main_arg6 : FVec F S400 .f32) (main_arg7 : FVec F S8x128x64 .f32) (main_arg8 : FVec F S8x400x512 .f32) (main_arg9 : FVec F S8x128x512 .f32) (main_arg10 : FVec F S8x128x128 .f32) (main_arg11 : FVec F S8x128x128 .f32) (main_arg12 : FVec F S8x128x512 .f32) (main_arg13 : FVec F S8x512x128 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x8x128 .f32 := Host.absf main_arg1
  let main_cst_0 : FVec F S_ .f32 := constant S_ .f32 0x7F800000#32
  let main_v5 : FVec F S1x8x128 .f32 := broadcastInDim S1x8x128 ![] bcast_S_S1x8x128 main_cst_0
  let main_v6 : IVec S1x8x128 1 := cmpf .olt main_v4 main_v5
  let main_c_1 : IVec S_ 1 := constantI S_ 1 1#1
  let main_v7 : IVec S_ 1 := (fun x v => Host.reduce IntOp.andi x v reducesTo_S1x8x128_S_d0_1_2 h_S_) main_v6 main_c_1
  let main_v8 : IVec S_ 1 := andi main_v3 main_v7
  let main_v9 : FVec F S1024x64 .f32 := Host.absf main_arg3
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg10 main_arg11 main_arg12 main_arg13 main_v13 main_v16
-- ==== Kernel.lean ====
abbrev S1x2048x1024 : Shape := ⟨3, ![1, 2048, 1024]⟩
abbrev S1x8x128 : Shape := ⟨3, ![1, 8, 128]⟩
abbrev S1024x64 : Shape := ⟨2, ![1024, 64]⟩
abbrev S64 : Shape := ⟨1, ![64]⟩
abbrev S1024x400 : Shape := ⟨2, ![1024, 400]⟩
abbrev S400 : Shape := ⟨1, ![400]⟩
abbrev S8x128x64 : Shape := ⟨3, ![8, 128, 64]⟩
abbrev S8x400x512 : Shape := ⟨3, ![8, 400, 512]⟩
abbrev S8x128x512 : Shape := ⟨3, ![8, 128, 512]⟩
abbrev S8x128x128 : Shape := ⟨3, ![8, 128, 128]⟩
abbrev S8x512x128 : Shape := ⟨3, ![8, 512, 128]⟩
abbrev S2048x1x1024 : Shape := ⟨3, ![2048, 1, 1024]⟩
abbrev S_ : Shape := ⟨0, ![]⟩
abbrev S2048x2x64 : Shape := ⟨3, ![2048, 2, 64]⟩
abbrev S2048x2x400 : Shape := ⟨3, ![2048, 2, 400]⟩
abbrev S1x1x1024 : Shape := ⟨3, ![1, 1, 1024]⟩
abbrev S1x1024 : Shape := ⟨2, ![1, 1024]⟩
abbrev S1x2x1024 : Shape := ⟨3, ![1, 2, 1024]⟩
abbrev S1x2x64 : Shape := ⟨3, ![1, 2, 64]⟩
abbrev S1x1x64 : Shape := ⟨3, ![1, 1, 64]⟩
abbrev S1x2x400 : Shape := ⟨3, ![1, 2, 400]⟩
abbrev S1x1x400 : Shape := ⟨3, ![1, 1, 400]⟩
abbrev S2x64 : Shape := ⟨2, ![2, 64]⟩
abbrev S2x400 : Shape := ⟨2, ![2, 400]⟩
abbrev S128x8x64 : Shape := ⟨3, ![128, 8, 64]⟩
abbrev S128x512 : Shape := ⟨2, ![128, 512]⟩
abbrev S400x8x512 : Shape := ⟨3, ![400, 8, 512]⟩
abbrev S400x4096 : Shape := ⟨2, ![400, 4096]⟩
abbrev S128x8x512 : Shape := ⟨3, ![128, 8, 512]⟩
abbrev S128x4096 : Shape := ⟨2, ![128, 4096]⟩
abbrev S128x8x128 : Shape := ⟨3, ![128, 8, 128]⟩
abbrev S128x1024 : Shape := ⟨2, ![128, 1024]⟩
abbrev S128x6144 : Shape := ⟨2, ![128, 6144]⟩
abbrev S2048x128 : Shape := ⟨2, ![2048, 128]⟩
abbrev S256x2x64 : Shape := ⟨3, ![256, 2, 64]⟩
abbrev S256x2x400 : Shape := ⟨3, ![256, 2, 400]⟩
abbrev S256x128 : Shape := ⟨2, ![256, 128]⟩
abbrev S8x128 : Shape := ⟨2, ![8, 128]⟩
abbrev S8x1 : Shape := ⟨2, ![8, 1]⟩
abbrev S1x128 : Shape := ⟨2, ![1, 128]⟩
abbrev S8x512 : Shape := ⟨2, ![8, 512]⟩
abbrev S8x64 : Shape := ⟨2, ![8, 64]⟩
abbrev S8x2 : Shape := ⟨2, ![8, 2]⟩
abbrev S1x8x1 : Shape := ⟨3, ![1, 8, 1]⟩
abbrev S1 : Shape := ⟨1, ![1]⟩
abbrev S1x1x1 : Shape := ⟨3, ![1, 1, 1]⟩
abbrev S8 : Shape := ⟨1, ![8]⟩
abbrev S8x400 : Shape := ⟨2, ![8, 400]⟩
abbrev S8x4096 : Shape := ⟨2, ![8, 4096]⟩
abbrev S8x6144 : Shape := ⟨2, ![8, 6144]⟩
abbrev S8x1024 : Shape := ⟨2, ![8, 1024]⟩
abbrev S8x32 : Shape := ⟨2, ![8, 32]⟩
abbrev S8x8 : Shape := ⟨2, ![8, 8]⟩
abbrev S8x1x512 : Shape := ⟨3, ![8, 1, 512]⟩
abbrev S8x1x128 : Shape := ⟨3, ![8, 1, 128]⟩
abbrev S2048x2 : Shape := ⟨2, ![2048, 2]⟩
abbrev S4096 : Shape := ⟨1, ![4096]⟩

abbrev nBuf : Space → Nat
  | .hbm => 79
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1x8x128, .f32⟩
  | .hbm, ⟨2, _⟩ => ⟨S1x8x128, .f32⟩
  | .hbm, ⟨3, _⟩ => ⟨S1024x64, .f32⟩
  | .hbm, ⟨4, _⟩ => ⟨S64, .f32⟩
  | .hbm, ⟨5, _⟩ => ⟨S1024x400, .f32⟩
  | .hbm, ⟨6, _⟩ => ⟨S400, .f32⟩
  | .hbm, ⟨7, _⟩ => ⟨S8x128x64, .f32⟩
  | .hbm, ⟨8, _⟩ => ⟨S8x400x512, .f32⟩
  | .hbm, ⟨9, _⟩ => ⟨S8x128x512, .f32⟩
  | .hbm, ⟨10, _⟩ => ⟨S8x128x128, .f32⟩
  | .hbm, ⟨11, _⟩ => ⟨S8x128x128, .f32⟩
  | .hbm, ⟨12, _⟩ => ⟨S8x128x512, .f32⟩
  | .hbm, ⟨13, _⟩ => ⟨S8x512x128, .f32⟩
  | .hbm, ⟨14, _⟩ => ⟨S2048x1x1024, .f32⟩
  | .hbm, ⟨15, _⟩ => ⟨S_, .f32⟩
  | .hbm, ⟨16, _⟩ => ⟨S_, .f32⟩
  | .hbm, ⟨17, _⟩ => ⟨S2048x2x64, .f32⟩
  | .hbm, ⟨18, _⟩ => ⟨S_, .f32⟩
  | .hbm, ⟨19, _⟩ => ⟨S2048x2x400, .f32⟩
  | .hbm, ⟨20, _⟩ => ⟨S_, .i32⟩
  | .hbm, ⟨21, _⟩ => ⟨S2048x1x1024, .f32⟩
  | .hbm, ⟨22, _⟩ => ⟨S_, .f32⟩
  | .hbm, ⟨23, _⟩ => ⟨S1024x64, .f32⟩
  | .hbm, ⟨24, _⟩ => ⟨S64, .f32⟩
  | .hbm, ⟨25, _⟩ => ⟨S1024x400, .f32⟩
  | .hbm, ⟨26, _⟩ => ⟨S400, .f32⟩
  | .hbm, ⟨27, _⟩ => ⟨S_, .i32⟩
  | .hbm, ⟨28, _⟩ => ⟨S2048x2x64, .f32⟩
  | .hbm, ⟨29, _⟩ => ⟨S2048x2x400, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1x1x1024, .f32⟩
  | .hbm, ⟨35, _⟩ => ⟨S1x1024, .f32⟩
  | .hbm, ⟨36, _⟩ => ⟨S1x1x1024, .f32⟩
  | .hbm, ⟨37, _⟩ => ⟨S_, .f32⟩
  | .hbm, ⟨38, _⟩ => ⟨S1x1x1024, .f32⟩
  | .hbm, ⟨39, _⟩ => ⟨S1x2x1024, .f32⟩
  | .hbm, ⟨40, _⟩ => ⟨S1x2x64, .f32⟩
  | .hbm, ⟨41, _⟩ => ⟨S1x1x64, .f32⟩
  | .hbm, ⟨42, _⟩ => ⟨S1x2x64, .f32⟩
  | .hbm, ⟨43, _⟩ => ⟨S1x2x64, .f32⟩
  | .hbm, ⟨44, _⟩ => ⟨S1x2x400, .f32⟩
  | .hbm, ⟨45, _⟩ => ⟨S1x1x400, .f32⟩
  | .hbm, ⟨46, _⟩ => ⟨S1x2x400, .f32⟩
  | .hbm, ⟨47, _⟩ => ⟨S1x2x400, .f32⟩
  | .hbm, ⟨48, _⟩ => ⟨S2x64, .f32⟩
  | .hbm, ⟨49, _⟩ => ⟨S2x400, .f32⟩
  | .hbm, ⟨50, _⟩ => ⟨S1x2x64, .f32⟩
  | .hbm, ⟨51, _⟩ => ⟨S_, .i32⟩
  | .hbm, ⟨52, _⟩ => ⟨S_, .i32⟩
  | .hbm, ⟨53, _⟩ => ⟨S2048x2x64, .f32⟩
  | .hbm, ⟨54, _⟩ => ⟨S1x2x400, .f32⟩
  | .hbm, ⟨55, _⟩ => ⟨S_, .i32⟩
  | .hbm, ⟨56, _⟩ => ⟨S_, .i32⟩
  | .hbm, ⟨57, _⟩ => ⟨S2048x2x400, .f32⟩
  | .hbm, ⟨58, _⟩ => ⟨S_, .i32⟩
  | .hbm, ⟨59, _⟩ => ⟨S_, .i32⟩
  | .hbm, ⟨60, _⟩ => ⟨S128x8x64, .f32⟩
  | .hbm, ⟨61, _⟩ => ⟨S128x512, .f32⟩
  | .hbm, ⟨62, _⟩ => ⟨S400x8x512, .f32⟩
  | .hbm, ⟨63, _⟩ => ⟨S400x4096, .f32⟩
  | .hbm, ⟨64, _⟩ => ⟨S128x8x512, .f32⟩
  | .hbm, ⟨65, _⟩ => ⟨S128x4096, .f32⟩
  | .hbm, ⟨66, _⟩ => ⟨S128x8x128, .f32⟩
  | .hbm, ⟨67, _⟩ => ⟨S128x1024, .f32⟩
  | .hbm, ⟨68, _⟩ => ⟨S128x8x128, .f32⟩
  | .hbm, ⟨69, _⟩ => ⟨S128x1024, .f32⟩
  | .hbm, ⟨70, _⟩ => ⟨S128x8x512, .f32⟩
  | .hbm, ⟨71, _⟩ => ⟨S128x4096, .f32⟩
  | .hbm, ⟨72, _⟩ => ⟨S128x6144, .f32⟩
  | .hbm, ⟨73, _⟩ => ⟨S2048x128, .f32⟩
  | .hbm, ⟨74, _⟩ => ⟨S2048x128, .i32⟩
  | .hbm, ⟨75, _⟩ => ⟨S2048x2, .f32⟩
  | .hbm, ⟨76, _⟩ => ⟨S4096, .f32⟩
  | .hbm, ⟨77, _⟩ => ⟨S2048x2, .i32⟩
  | .hbm, ⟨78, _⟩ => ⟨S4096, .i32⟩
  | .local _ .vmem, ⟨0, _⟩ => ⟨S256x2x64, .f32⟩
  | .local _ .vmem, ⟨1, _⟩ => ⟨S256x2x64, .f32⟩
  | .local _ .vmem, ⟨2, _⟩ => ⟨S256x2x400, .f32⟩
  | .local _ .vmem, ⟨3, _⟩ => ⟨S256x2x400, .f32⟩
  | .local _ .vmem, ⟨4, _⟩ => ⟨S1x8x128, .f32⟩
  | .local _ .vmem, ⟨5, _⟩ => ⟨S1x8x128, .f32⟩
  | .local _ .vmem, ⟨6, _⟩ => ⟨S128x512, .f32⟩
  | .local _ .vmem, ⟨7, _⟩ => ⟨S400x4096, .f32⟩
  | .local _ .vmem, ⟨8, _⟩ => ⟨S128x4096, .f32⟩
  | .local _ .vmem, ⟨9, _⟩ => ⟨S128x6144, .f32⟩
  | .local _ .vmem, ⟨10, _⟩ => ⟨S8x512x128, .f32⟩
  | .local _ .vmem, ⟨11, _⟩ => ⟨S256x128, .f32⟩
  | .local _ .vmem, ⟨12, _⟩ => ⟨S256x128, .f32⟩
  | .local _ .vmem, ⟨13, _⟩ => ⟨S256x128, .i32⟩
  | .local _ .vmem, ⟨14, _⟩ => ⟨S256x128, .i32⟩
  | .local _ .vmem, ⟨15, _⟩ => ⟨S8x128, .f32⟩
  | .local _ .vmem, ⟨16, _⟩ => ⟨S8x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_c : Ref sig .tc := ⟨.hbm, 20, rfl⟩
abbrev main_v3_0 : Ref sig .tc := ⟨.hbm, 21, rfl⟩
abbrev main_v3_1 : Ref sig .tc := ⟨.hbm, 22, rfl⟩
abbrev main_v3_2 : Ref sig .tc := ⟨.hbm, 23, rfl⟩
abbrev main_v3_3 : Ref sig .tc := ⟨.hbm, 24, rfl⟩
abbrev main_v3_4 : Ref sig .tc := ⟨.hbm, 25, rfl⟩
abbrev main_v3_5 : Ref sig .tc := ⟨.hbm, 26, rfl⟩
abbrev main_v3_6 : Ref sig .tc := ⟨.hbm, 27, rfl⟩
abbrev main_v3_7 : Ref sig .tc := ⟨.hbm, 28, rfl⟩
abbrev main_v3_8 : Ref sig .tc := ⟨.hbm, 29, rfl⟩
abbrev main_while0c_c_10 : Ref sig .tc := ⟨.hbm, 30, rfl⟩
abbrev main_while0c_v22 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_v0 : Ref sig .tc := ⟨.hbm, 34, rfl⟩
abbrev main_while0b_v22 : Ref sig .tc := ⟨.hbm, 35, rfl⟩
abbrev main_while0b_v23 : Ref sig .tc := ⟨.hbm, 36, rfl⟩
abbrev main_while0b_cst_10 : Ref sig .tc := ⟨.hbm, 37, rfl⟩
abbrev main_while0b_v24 : Ref sig .tc := ⟨.hbm, 38, rfl⟩
abbrev main_while0b_v25 : Ref sig .tc := ⟨.hbm, 39, rfl⟩
abbrev main_while0b_v26 : Ref sig .tc := ⟨.hbm, 40, rfl⟩
abbrev main_while0b_v27 : Ref sig .tc := ⟨.hbm, 41, rfl⟩
abbrev main_while0b_v28 : Ref sig .tc := ⟨.hbm, 42, rfl⟩
abbrev main_while0b_v29 : Ref sig .tc := ⟨.hbm, 43, rfl⟩
abbrev main_while0b_v30 : Ref sig .tc := ⟨.hbm, 44, rfl⟩
abbrev main_while0b_v31 : Ref sig .tc := ⟨.hbm, 45, rfl⟩
abbrev main_while0b_v32 : Ref sig .tc := ⟨.hbm, 46, rfl⟩
abbrev main_while0b_v33 : Ref sig .tc := ⟨.hbm, 47, rfl⟩
abbrev main_while0b_v34 : Ref sig .tc := ⟨.hbm, 48, rfl⟩
abbrev main_while0b_v35 : Ref sig .tc := ⟨.hbm, 49, rfl⟩
abbrev main_while0b_call1_v0 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_v36 : Ref sig .tc := ⟨.hbm, 53, rfl⟩
abbrev main_while0b_call2_v0 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_v37 : Ref sig .tc := ⟨.hbm, 57, rfl⟩
abbrev main_while0b_c_11 : Ref sig .tc := ⟨.hbm, 58, rfl⟩
abbrev main_while0b_v38 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17_0 : Ref sig .tc := ⟨.hbm, 73, rfl⟩
abbrev main_v17_1 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev main_while0_count : Scf.Loop 32 := ⟨0#32, 2048#32, 1#32⟩

abbrev grid0 : Pipeline.Grid := ⟨1, ![8], ![false]⟩

@[reducible] def k0_t1_loop : Scf.Loop 32 :=
  let c0_i32_15 : BitVec 32 := 0#32
  let c256_i32 : BitVec 32 := 256#32
  let v16 : BitVec 32 := Scalar.addi c0_i32_15 c256_i32
  let c1_i32 : BitVec 32 := 1#32
  ⟨c0_i32_15, v16, c1_i32⟩
def k0_off1 (k0_t1 : Fin k0_t1_loop.trips) : Fin 3 → Nat :=
  let c0_i32_15 : BitVec 32 := 0#32
  let c1_i32 : BitVec 32 := 1#32
  let arg14 : BitVec 32 := Scf.iv c0_i32_15 c1_i32 k0_t1
  let v24 : Index := Scalar.indexCast arg14
  let c0_21 : Index := 0#32
  let c0_22 : Index := 0#32
  ![v24.toNat, 0, 0]
def k0_off2 (k0_t1 : Fin k0_t1_loop.trips) : Fin 3 → Nat :=
  let c0_i32_15 : BitVec 32 := 0#32
  let c1_i32 : BitVec 32 := 1#32
  let arg14 : BitVec 32 := Scf.iv c0_i32_15 c1_i32 k0_t1
  let v27 : Index := Scalar.indexCast arg14
  let c0_23 : Index := 0#32
  let c0_24 : Index := 0#32
  ![v27.toNat, 0, 0]
def k0_off3 (k0_t1 : Fin k0_t1_loop.trips) : Fin 2 → Nat :=
  let c0_i32_15 : BitVec 32 := 0#32
  let c1_i32 : BitVec 32 := 1#32
  let arg14 : BitVec 32 := Scf.iv c0_i32_15 c1_i32 k0_t1
  let v594 : Index := Scalar.indexCast arg14
  let c0_159 : Index := 0#32
  ![v594.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S400x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1x2048x1024 : Shape := ⟨3, ![1, 2048, 1024]⟩
abbrev S1x8x128 : Shape := ⟨3, ![1, 8, 128]⟩
abbrev S1024x64 : Shape := ⟨2, ![1024, 64]⟩
abbrev S64 : Shape := ⟨1, ![64]⟩
abbrev S1024x400 : Shape := ⟨2, ![1024, 400]⟩
abbrev S400 : Shape := ⟨1, ![400]⟩
abbrev S8x128x64 : Shape := ⟨3, ![8, 128, 64]⟩
abbrev S8x400x512 : Shape := ⟨3, ![8, 400, 512]⟩
abbrev S8x128x512 : Shape := ⟨3, ![8, 128, 512]⟩
abbrev S8x128x128 : Shape := ⟨3, ![8, 128, 128]⟩
abbrev S8x512x128 : Shape := ⟨3, ![8, 512, 128]⟩
abbrev S2048x1x1024 : Shape := ⟨3, ![2048, 1, 1024]⟩
abbrev S_ : Shape := ⟨0, ![]⟩
abbrev S2048x2 : Shape := ⟨2, ![2048, 2]⟩
abbrev S1x1x1024 : Shape := ⟨3, ![1, 1, 1024]⟩
abbrev S1x1024 : Shape := ⟨2, ![1, 1024]⟩
abbrev S1x2x1024 : Shape := ⟨3, ![1, 2, 1024]⟩
abbrev S1x2x64 : Shape := ⟨3, ![1, 2, 64]⟩
abbrev S1x1x64 : Shape := ⟨3, ![1, 1, 64]⟩
abbrev S1x2x400 : Shape := ⟨3, ![1, 2, 400]⟩
abbrev S1x1x400 : Shape := ⟨3, ![1, 1, 400]⟩
abbrev S8x64x1 : Shape := ⟨3, ![8, 64, 1]⟩
abbrev S1x8x64 : Shape := ⟨3, ![1, 8, 64]⟩
abbrev S1x8x2 : Shape := ⟨3, ![1, 8, 2]⟩
abbrev S1x8x1 : Shape := ⟨3, ![1, 8, 1]⟩
abbrev S1x8 : Shape := ⟨2, ![1, 8]⟩
abbrev S1x2 : Shape := ⟨2, ![1, 2]⟩
abbrev S1 : Shape := ⟨1, ![1]⟩
abbrev S1x1 : Shape := ⟨2, ![1, 1]⟩
abbrev S1x2x1 : Shape := ⟨3, ![1, 2, 1]⟩
abbrev S1x2x2 : Shape := ⟨3, ![1, 2, 2]⟩
abbrev S1x8x400 : Shape := ⟨3, ![1, 8, 400]⟩
abbrev S2x1 : Shape := ⟨2, ![2, 1]⟩
abbrev S2 : Shape := ⟨1, ![2]⟩
abbrev S8x512x1 : Shape := ⟨3, ![8, 512, 1]⟩
abbrev S1x8x512 : Shape := ⟨3, ![1, 8, 512]⟩
abbrev S1x8x384 : Shape := ⟨3, ![1, 8, 384]⟩
abbrev S8x128x1 : Shape := ⟨3, ![8, 128, 1]⟩
abbrev S1x8x4x32 : Shape := ⟨4, ![1, 8, 4, 32]⟩
abbrev S1x4x8x32 : Shape := ⟨4, ![1, 4, 8, 32]⟩
abbrev S1x8x4x128 : Shape := ⟨4, ![1, 8, 4, 128]⟩
abbrev S1x4x8x128 : Shape := ⟨4, ![1, 4, 8, 128]⟩
abbrev S1x4x8x8 : Shape := ⟨4, ![1, 4, 8, 8]⟩
abbrev S1x4x8 : Shape := ⟨3, ![1, 4, 8]⟩
abbrev S1x4x8x1 : Shape := ⟨4, ![1, 4, 8, 1]⟩
abbrev S1x1x8x1 : Shape := ⟨4, ![1, 1, 8, 1]⟩
abbrev S4096 : Shape := ⟨1, ![4096]⟩

abbrev nBuf : Space → Nat
  | .hbm => 239
  | .vmem => 0
  | .smem => 0
  | _ => 0

abbrev hbmTy0_0 (i : Nat) : BufTy := match i % 128 with
  | 0 => ⟨S1x2048x1024, .f32⟩
  | 1 => ⟨S1x8x128, .f32⟩
  | 2 => ⟨S1x8x128, .f32⟩
  | 3 => ⟨S1024x64, .f32⟩
  | 4 => ⟨S64, .f32⟩
  | 5 => ⟨S1024x400, .f32⟩
  | 6 => ⟨S400, .f32⟩
  | 7 => ⟨S8x128x64, .f32⟩
  | 8 => ⟨S8x400x512, .f32⟩
  | 9 => ⟨S8x128x512, .f32⟩
  | 10 => ⟨S8x128x128, .f32⟩
  | 11 => ⟨S8x128x128, .f32⟩
  | 12 => ⟨S8x128x512, .f32⟩
  | 13 => ⟨S8x512x128, .f32⟩
  | 14 => ⟨S2048x1x1024, .f32⟩
  | 15 => ⟨S_, .f32⟩
  | 16 => ⟨S2048x2, .f32⟩
  | 17 => ⟨S_, .i32⟩
  | 18 => ⟨S2048x2, .i32⟩
  | 19 => ⟨S_, .i32⟩
  | 20 => ⟨S2048x1x1024, .f32⟩
  | 21 => ⟨S1024x64, .f32⟩
  | 22 => ⟨S64, .f32⟩
  | 23 => ⟨S1024x400, .f32⟩
  | 24 => ⟨S400, .f32⟩
  | 25 => ⟨S8x128x64, .f32⟩
  | 26 => ⟨S8x400x512, .f32⟩
  | 27 => ⟨S8x128x512, .f32⟩
  | 28 => ⟨S8x128x128, .f32⟩
  | 29 => ⟨S8x128x128, .f32⟩
  | 30 => ⟨S8x128x512, .f32⟩
  | 31 => ⟨S8x512x128, .f32⟩
  | 32 => ⟨S_, .i32⟩
  | 33 => ⟨S1x8x128, .f32⟩
  | 34 => ⟨S1x8x128, .f32⟩
  | 35 => ⟨S2048x2, .f32⟩
  | 36 => ⟨S2048x2, .i32⟩
  | 37 => ⟨S_, .i32⟩
  | 38 => ⟨S_, .i1⟩
  | 39 => ⟨S_, .i32⟩
  | 40 => ⟨S_, .i32⟩
  | 41 => ⟨S1x1x1024, .f32⟩
  | 42 => ⟨S1x1024, .f32⟩
  | 43 => ⟨S1x1x1024, .f32⟩
  | 44 => ⟨S_, .f32⟩
  | 45 => ⟨S1x1x1024, .f32⟩
  | 46 => ⟨S1x2x1024, .f32⟩
  | 47 => ⟨S1x2x64, .f32⟩
  | 48 => ⟨S1x1x64, .f32⟩
  | 49 => ⟨S1x2x64, .f32⟩
  | 50 => ⟨S1x2x64, .f32⟩
  | 51 => ⟨S1x2x400, .f32⟩
  | 52 => ⟨S1x1x400, .f32⟩
  | 53 => ⟨S1x2x400, .f32⟩
  | 54 => ⟨S1x2x400, .f32⟩
  | 55 => ⟨S8x64x1, .f32⟩
  | 56 => ⟨S1x8x64, .f32⟩
  | 57 => ⟨S1x8x2, .f32⟩
  | 58 => ⟨S_, .f32⟩
  | 59 => ⟨S1x8x2, .f32⟩
  | 60 => ⟨S1x8x2, .f32⟩
  | 61 => ⟨S1x8x1, .f32⟩
  | 62 => ⟨S1x8, .f32⟩
  | 63 => ⟨S1x2, .f32⟩
  | 64 => ⟨S1x2, .i32⟩
  | 65 => ⟨S_, .f32⟩
  | 66 => ⟨S1x8, .f32⟩
  | 67 => ⟨S1, .i32⟩
  | 68 => ⟨S1x1, .i32⟩
  | 69 => ⟨S_, .i32⟩
  | 70 => ⟨S1x1, .i32⟩
  | 71 => ⟨S1x1, .i1⟩
  | 72 => ⟨S_, .i32⟩
  | 73 => ⟨S1x1, .i32⟩
  | 74 => ⟨S1x1, .i32⟩
  | 75 => ⟨S1x1, .i32⟩
  | 76 => ⟨S_, .i32⟩
  | 77 => ⟨S1x2, .i32⟩
  | 78 => ⟨S1x2, .i1⟩
  | 79 => ⟨S_, .i32⟩
  | 80 => ⟨S1x2, .i32⟩
  | 81 => ⟨S1x2, .i32⟩
  | 82 => ⟨S1x2, .i32⟩
  | 83 => ⟨S1x2, .i32⟩
  | 84 => ⟨S1x2x1, .i32⟩
  | 85 => ⟨S1x2x1, .i32⟩
  | 86 => ⟨S1x2x2, .i32⟩
  | 87 => ⟨S_, .f32⟩
  | 88 => ⟨S1x2, .f32⟩
  | 89 => ⟨S1x8, .f32⟩
  | 90 => ⟨S_, .f32⟩
  | 91 => ⟨S1x8, .f32⟩
  | 92 => ⟨S_, .f32⟩
  | 93 => ⟨S1x8, .f32⟩
  | 94 => ⟨S1x8, .f32⟩
  | 95 => ⟨S1x8x1, .f32⟩
  | 96 => ⟨S1x8x2, .f32⟩
  | 97 => ⟨S1x8x2, .f32⟩
  | 98 => ⟨S1x8x2, .f32⟩
  | 99 => ⟨S_, .f32⟩
  | 100 => ⟨S1x8, .f32⟩
  | 101 => ⟨S1x8x1, .f32⟩
  | 102 => ⟨S1x8x2, .f32⟩
  | 103 => ⟨S1x8x2, .f32⟩
  | 104 => ⟨S1x8x400, .f32⟩
  | 105 => ⟨S1x8x1, .f32⟩
  | 106 => ⟨S1x8x400, .f32⟩
  | 107 => ⟨S1x8x400, .f32⟩
  | 108 => ⟨S1x2, .i32⟩
  | 109 => ⟨S1x8x1, .f32⟩
  | 110 => ⟨S1x8, .f32⟩
  | 111 => ⟨S_, .i32⟩
  | 112 => ⟨S1x2, .i32⟩
  | 113 => ⟨S1x2, .i1⟩
  | 114 => ⟨S_, .i32⟩
  | 115 => ⟨S1x2, .i32⟩
  | 116 => ⟨S1x2, .i32⟩
  | 117 => ⟨S1x2, .i32⟩
  | 118 => ⟨S2x1, .i32⟩
  | 119 => ⟨S1, .i32⟩
  | 120 => ⟨S_, .i32⟩
  | 121 => ⟨S2x1, .i32⟩
  | 122 => ⟨S2x1, .i1⟩
  | 123 => ⟨S1x1, .i32⟩
  | 124 => ⟨S2x1, .i32⟩
  | 125 => ⟨S2x1, .i1⟩
  | 126 => ⟨S2x1, .i1⟩
  | 127 => ⟨S_, .i1⟩
  | _ => ⟨S1x2048x1024, .f32⟩

abbrev hbmTy0_1 (i : Nat) : BufTy := match i % 128 with
  | 0 => ⟨S2, .i1⟩
  | 1 => ⟨S1x2, .f32⟩
  | 2 => ⟨S1x2, .i1⟩
  | 3 => ⟨S_, .f32⟩
  | 4 => ⟨S1x2, .f32⟩
  | 5 => ⟨S1x2, .f32⟩
  | 6 => ⟨S_, .f32⟩
  | 7 => ⟨S1, .f32⟩
  | 8 => ⟨S1x1, .f32⟩
  | 9 => ⟨S1x2, .f32⟩
  | 10 => ⟨S1x2, .f32⟩
  | 11 => ⟨S8x512x1, .f32⟩
  | 12 => ⟨S1x8x512, .f32⟩
  | 13 => ⟨S8x512x1, .f32⟩
  | 14 => ⟨S1x8x512, .f32⟩
  | 15 => ⟨S1x8x512, .f32⟩
  | 16 => ⟨S1x8x384, .f32⟩
  | 17 => ⟨S1x8x384, .f32⟩
  | 18 => ⟨S1x8x384, .f32⟩
  | 19 => ⟨S_, .f32⟩
  | 20 => ⟨S1x8x384, .f32⟩
  | 21 => ⟨S1x8x384, .f32⟩
  | 22 => ⟨S_, .f32⟩
  | 23 => ⟨S1x8x384, .f32⟩
  | 24 => ⟨S1x8x384, .f32⟩
  | 25 => ⟨S1x8x128, .f32⟩
  | 26 => ⟨S1x8x128, .f32⟩
  | 27 => ⟨S1x8x128, .f32⟩
  | 28 => ⟨S1x8x128, .f32⟩
  | 29 => ⟨S1x8x128, .f32⟩
  | 30 => ⟨S1x8x128, .f32⟩
  | 31 => ⟨S1x8x128, .f32⟩
  | 32 => ⟨S1x8x128, .f32⟩
  | 33 => ⟨S1x8x128, .f32⟩
  | 34 => ⟨S1x8x128, .f32⟩
  | 35 => ⟨S1x8x1, .f32⟩
  | 36 => ⟨S1x8x128, .f32⟩
  | 37 => ⟨S1x8x128, .f32⟩
  | 38 => ⟨S_, .f32⟩
  | 39 => ⟨S1x8x1, .f32⟩
  | 40 => ⟨S1x8x1, .f32⟩
  | 41 => ⟨S1x8x128, .f32⟩
  | 42 => ⟨S1x8x128, .f32⟩
  | 43 => ⟨S1x8x128, .f32⟩
  | 44 => ⟨S8x128x1, .f32⟩
  | 45 => ⟨S1x8x128, .f32⟩
  | 46 => ⟨S1x8x4x32, .f32⟩
  | 47 => ⟨S1x4x8x32, .f32⟩
  | 48 => ⟨S8x128x1, .f32⟩
  | 49 => ⟨S1x8x128, .f32⟩
  | 50 => ⟨S1x8x4x32, .f32⟩
  | 51 => ⟨S1x4x8x32, .f32⟩
  | 52 => ⟨S8x512x1, .f32⟩
  | 53 => ⟨S1x8x512, .f32⟩
  | 54 => ⟨S1x8x4x128, .f32⟩
  | 55 => ⟨S1x4x8x128, .f32⟩
  | 56 => ⟨S1x4x8x8, .f32⟩
  | 57 => ⟨S_, .f32⟩
  | 58 => ⟨S1x4x8x8, .f32⟩
  | 59 => ⟨S1x4x8x8, .f32⟩
  | 60 => ⟨S_, .f32⟩
  | 61 => ⟨S1x4x8, .f32⟩
  | 62 => ⟨S_, .f32⟩
  | 63 => ⟨S1x4x8, .f32⟩
  | 64 => ⟨S1x4x8, .f32⟩
  | 65 => ⟨S1x4x8x1, .f32⟩
  | 66 => ⟨S1x4x8x8, .f32⟩
  | 67 => ⟨S1x4x8x8, .f32⟩
  | 68 => ⟨S1x4x8x8, .f32⟩
  | 69 => ⟨S_, .f32⟩
  | 70 => ⟨S1x4x8, .f32⟩
  | 71 => ⟨S1x4x8x1, .f32⟩
  | 72 => ⟨S1x4x8x8, .f32⟩
  | 73 => ⟨S1x4x8x8, .f32⟩
  | 74 => ⟨S1x1x8x1, .f32⟩
  | 75 => ⟨S1x4x8x8, .f32⟩
  | 76 => ⟨S1x4x8x8, .f32⟩
  | 77 => ⟨S1x4x8x128, .f32⟩
  | 78 => ⟨S1x8x4x128, .f32⟩
  | 79 => ⟨S1x8x512, .f32⟩
  | 80 => ⟨S8x128x1, .f32⟩
  | 81 => ⟨S1x8x128, .f32⟩
  | 82 => ⟨S1x8x128, .f32⟩
  | 83 => ⟨S1x8x128, .f32⟩
  | 84 => ⟨S1x8x128, .f32⟩
  | 85 => ⟨S_, .f32⟩
  | 86 => ⟨S1x8x1, .f32⟩
  | 87 => ⟨S1x8x1, .f32⟩
  | 88 => ⟨S1x8x128, .f32⟩
  | 89 => ⟨S1x8x128, .f32⟩
  | 90 => ⟨S1x8x128, .f32⟩
  | 91 => ⟨S1x8x128, .f32⟩
  | 92 => ⟨S1x8x128, .f32⟩
  | 93 => ⟨S_, .f32⟩
  | 94 => ⟨S1x8x1, .f32⟩
  | 95 => ⟨S1x8x1, .f32⟩
  | 96 => ⟨S1x8x128, .f32⟩
  | 97 => ⟨S1x8x128, .f32⟩
  | 98 => ⟨S1x8x128, .f32⟩
  | 99 => ⟨S2, .f32⟩
  | 100 => ⟨S2, .i32⟩
  | 101 => ⟨S1x2, .f32⟩
  | 102 => ⟨S_, .i32⟩
  | 103 => ⟨S2048x2, .f32⟩
  | 104 => ⟨S1x2, .i32⟩
  | 105 => ⟨S_, .i32⟩
  | 106 => ⟨S2048x2, .i32⟩
  | 107 => ⟨S_, .i32⟩
  | 108 => ⟨S_, .i32⟩
  | 109 => ⟨S4096, .f32⟩
  | 110 => ⟨S4096, .i32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_c_0 : Ref sig .tc := ⟨.hbm, 19, rfl⟩
abbrev main_v3_0 : Ref sig .tc := ⟨.hbm, 20, rfl⟩
abbrev main_v3_1 : Ref sig .tc := ⟨.hbm, 21, rfl⟩
abbrev main_v3_2 : Ref sig .tc := ⟨.hbm, 22, rfl⟩
abbrev main_v3_3 : Ref sig .tc := ⟨.hbm, 23, rfl⟩
abbrev main_v3_4 : Ref sig .tc := ⟨.hbm, 24, rfl⟩
abbrev main_v3_5 : Ref sig .tc := ⟨.hbm, 25, rfl⟩
abbrev main_v3_6 : Ref sig .tc := ⟨.hbm, 26, rfl⟩
abbrev main_v3_7 : Ref sig .tc := ⟨.hbm, 27, rfl⟩
abbrev main_v3_8 : Ref sig .tc := ⟨.hbm, 28, rfl⟩
abbrev main_v3_9 : Ref sig .tc := ⟨.hbm, 29, rfl⟩
abbrev main_v3_10 : Ref sig .tc := ⟨.hbm, 30, rfl⟩
abbrev main_v3_11 : Ref sig .tc := ⟨.hbm, 31, rfl⟩
abbrev main_v3_12 : Ref sig .tc := ⟨.hbm, 32, rfl⟩
abbrev main_v3_13 : Ref sig .tc := ⟨.hbm, 33, rfl⟩
abbrev main_v3_14 : Ref sig .tc := ⟨.hbm, 34, rfl⟩
abbrev main_v3_15 : Ref sig .tc := ⟨.hbm, 35, rfl⟩
abbrev main_v3_16 : Ref sig .tc := ⟨.hbm, 36, rfl⟩
abbrev main_while0c_c_17 : Ref sig .tc := ⟨.hbm, 37, rfl⟩
abbrev main_while0c_v6 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_v0 : Ref sig .tc := ⟨.hbm, 41, rfl⟩
abbrev main_while0b_v6 : Ref sig .tc := ⟨.hbm, 42, rfl⟩
abbrev main_while0b_v7 : Ref sig .tc := ⟨.hbm, 43, rfl⟩
abbrev main_while0b_cst_17 : Ref sig .tc := ⟨.hbm, 44, rfl⟩
abbrev main_while0b_v8 : Ref sig .tc := ⟨.hbm, 45, rfl⟩
abbrev main_while0b_v9 : Ref sig .tc := ⟨.hbm, 46, rfl⟩
abbrev main_while0b_v10 : Ref sig .tc := ⟨.hbm, 47, rfl⟩
abbrev main_while0b_v11 : Ref sig .tc := ⟨.hbm, 48, rfl⟩
abbrev main_while0b_v12 : Ref sig .tc := ⟨.hbm, 49, rfl⟩
abbrev main_while0b_v13 : Ref sig .tc := ⟨.hbm, 50, rfl⟩
abbrev main_while0b_v14 : Ref sig .tc := ⟨.hbm, 51, rfl⟩
abbrev main_while0b_v15 : Ref sig .tc := ⟨.hbm, 52, rfl⟩
abbrev main_while0b_v16 : Ref sig .tc := ⟨.hbm, 53, rfl⟩
abbrev main_while0b_v17 : Ref sig .tc := ⟨.hbm, 54, rfl⟩
abbrev main_while0b_v18 : Ref sig .tc := ⟨.hbm, 55, rfl⟩
abbrev main_while0b_v19 : Ref sig .tc := ⟨.hbm, 56, rfl⟩
abbrev main_while0b_v20 : Ref sig .tc := ⟨.hbm, 57, rfl⟩
abbrev main_while0b_cst_18 : Ref sig .tc := ⟨.hbm, 58, rfl⟩
abbrev main_while0b_v21 : Ref sig .tc := ⟨.hbm, 59, rfl⟩
abbrev main_while0b_v22 : Ref sig .tc := ⟨.hbm, 60, rfl⟩
abbrev main_while0b_v23 : Ref sig .tc := ⟨.hbm, 61, rfl⟩
abbrev main_while0b_v24 : Ref sig .tc := ⟨.hbm, 62, rfl⟩
abbrev main_while0b_values : Ref sig .tc := ⟨.hbm, 63, rfl⟩
abbrev main_while0b_indices : Ref sig .tc := ⟨.hbm, 64, rfl⟩
abbrev main_while0b_cst_19 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_c_20 : Ref sig .tc := ⟨.hbm, 69, rfl⟩
abbrev main_while0b_v28 : Ref sig .tc := ⟨.hbm, 70, rfl⟩
abbrev main_while0b_v29 : Ref sig .tc := ⟨.hbm, 71, rfl⟩
abbrev main_while0b_c_21 : Ref sig .tc := ⟨.hbm, 72, rfl⟩
abbrev main_while0b_v30 : Ref sig .tc := ⟨.hbm, 73, rfl⟩
abbrev main_while0b_v31 : Ref sig .tc := ⟨.hbm, 74, rfl⟩
abbrev main_while0b_v32 : Ref sig .tc := ⟨.hbm, 75, rfl⟩
abbrev main_while0b_c_22 : Ref sig .tc := ⟨.hbm, 76, rfl⟩
abbrev main_while0b_v33 : Ref sig .tc := ⟨.hbm, 77, rfl⟩
abbrev main_while0b_v34 : Ref sig .tc := ⟨.hbm, 78, rfl⟩
abbrev main_while0b_c_23 : Ref sig .tc := ⟨.hbm, 79, rfl⟩
abbrev main_while0b_v35 : Ref sig .tc := ⟨.hbm, 80, rfl⟩
abbrev main_while0b_v36 : Ref sig .tc := ⟨.hbm, 81, rfl⟩
abbrev main_while0b_v37 : Ref sig .tc := ⟨.hbm, 82, rfl⟩
abbrev main_while0b_v38 : Ref sig .tc := ⟨.hbm, 83, rfl⟩
abbrev main_while0b_v39 : Ref sig .tc := ⟨.hbm, 84, rfl⟩
abbrev main_while0b_v40 : Ref sig .tc := ⟨.hbm, 85, rfl⟩
abbrev main_while0b_v41 : Ref sig .tc := ⟨.hbm, 86, rfl⟩
abbrev main_while0b_cst_24 : Ref sig .tc := ⟨.hbm, 87, rfl⟩
abbrev main_while0b_v42 : Ref sig .tc := ⟨.hbm, 88, rfl⟩
abbrev main_while0b_v43 : Ref sig .tc := ⟨.hbm, 89, rfl⟩
abbrev main_while0b_cst_25 : Ref sig .tc := ⟨.hbm, 90, rfl⟩
abbrev main_while0b_v44 : Ref sig .tc := ⟨.hbm, 91, rfl⟩
abbrev main_while0b_cst_26 : Ref sig .tc := ⟨.hbm, 92, rfl⟩
abbrev main_while0b_v45 : Ref sig .tc := ⟨.hbm, 93, rfl⟩
abbrev main_while0b_v46 : Ref sig .tc := ⟨.hbm, 94, rfl⟩
abbrev main_while0b_v47 : Ref sig .tc := ⟨.hbm, 95, rfl⟩
abbrev main_while0b_v48 : Ref sig .tc := ⟨.hbm, 96, rfl⟩
abbrev main_while0b_v49 : Ref sig .tc := ⟨.hbm, 97, rfl⟩
abbrev main_while0b_v50 : Ref sig .tc := ⟨.hbm, 98, rfl⟩
abbrev main_while0b_cst_27 : Ref sig .tc := ⟨.hbm, 99, rfl⟩
abbrev main_while0b_v51 : Ref sig .tc := ⟨.hbm, 100, rfl⟩
abbrev main_while0b_v52 : Ref sig .tc := ⟨.hbm, 101, rfl⟩
abbrev main_while0b_v53 : Ref sig .tc := ⟨.hbm, 102, rfl⟩
abbrev main_while0b_v54 : Ref sig .tc := ⟨.hbm, 103, rfl⟩
abbrev main_while0b_v55 : Ref sig .tc := ⟨.hbm, 104, rfl⟩
abbrev main_while0b_v56 : Ref sig .tc := ⟨.hbm, 105, rfl⟩
abbrev main_while0b_v57 : Ref sig .tc := ⟨.hbm, 106, rfl⟩
abbrev main_while0b_v58 : Ref sig .tc := ⟨.hbm, 107, rfl⟩
abbrev main_while0b_v59 : Ref sig .tc := ⟨.hbm, 108, rfl⟩
abbrev main_while0b_v60 : Ref sig .tc := ⟨.hbm, 109, rfl⟩
abbrev main_while0b_v61 : Ref sig .tc := ⟨.hbm, 110, rfl⟩
abbrev main_while0b_call2_c : Ref sig .tc := ⟨.hbm, 111, rfl⟩
abbrev main_while0b_call2_v0 : Ref sig .tc := ⟨.hbm, 112, rfl⟩
abbrev main_while0b_call2_v1 : Ref sig .tc := ⟨.hbm, 113, rfl⟩
abbrev main_while0b_call2_c_0 : Ref sig .tc := ⟨.hbm, 114, rfl⟩
abbrev main_while0b_call2_v2 : Ref sig .tc := ⟨.hbm, 115, rfl⟩
abbrev main_while0b_call2_v3 : Ref sig .tc := ⟨.hbm, 116, rfl⟩
abbrev main_while0b_call2_v4 : Ref sig .tc := ⟨.hbm, 117, rfl⟩
abbrev main_while0b_call2_v5 : Ref sig .tc := ⟨.hbm, 118, rfl⟩
abbrev main_while0b_call2_c_1 : Ref sig .tc := ⟨.hbm, 119, rfl⟩
abbrev main_while0b_call2_c_2 : Ref sig .tc := ⟨.hbm, 120, rfl⟩
abbrev main_while0b_call2_v6 : Ref sig .tc := ⟨.hbm, 121, rfl⟩
abbrev main_while0b_call2_v7 : Ref sig .tc := ⟨.hbm, 122, rfl⟩
abbrev main_while0b_call2_v8 : Ref sig .tc := ⟨.hbm, 123, rfl⟩
abbrev main_while0b_call2_v9 : Ref sig .tc := ⟨.hbm, 124, rfl⟩
abbrev main_while0b_call2_v10 : Ref sig .tc := ⟨.hbm, 125, rfl⟩
abbrev main_while0b_call2_v11 : Ref sig .tc := ⟨.hbm, 126, rfl⟩
abbrev main_while0b_call2_c_3 : Ref sig .tc := ⟨.hbm, 127, rfl⟩
abbrev main_while0b_call2_v12 : Ref sig .tc := ⟨.hbm, 128, rfl⟩
abbrev main_while0b_call2_v13 : Ref sig .tc := ⟨.hbm, 129, rfl⟩
abbrev main_while0b_call2_v14 : Ref sig .tc := ⟨.hbm, 130, rfl⟩
abbrev main_while0b_call2_cst : Ref sig .tc := ⟨.hbm, 131, rfl⟩
abbrev main_while0b_call2_v15 : Ref sig .tc := ⟨.hbm, 132, rfl⟩
abbrev main_while0b_v62 : Ref sig .tc := ⟨.hbm, 133, rfl⟩
abbrev main_while0b_cst_28 : Ref sig .tc := ⟨.hbm, 134, rfl⟩
abbrev main_while0b_v63 : Ref sig .tc := ⟨.hbm, 135, rfl⟩
abbrev main_while0b_v64 : Ref sig .tc := ⟨.hbm, 136, rfl⟩
abbrev main_while0b_v65 : Ref sig .tc := ⟨.hbm, 137, rfl⟩
abbrev main_while0b_v66 : Ref sig .tc := ⟨.hbm, 138, rfl⟩
abbrev main_while0b_v67 : Ref sig .tc := ⟨.hbm, 139, rfl⟩
abbrev main_while0b_v68 : Ref sig .tc := ⟨.hbm, 140, rfl⟩
abbrev main_while0b_v69 : Ref sig .tc := ⟨.hbm, 141, rfl⟩
abbrev main_while0b_v70 : Ref sig .tc := ⟨.hbm, 142, rfl⟩
abbrev main_while0b_v71 : Ref sig .tc := ⟨.hbm, 143, rfl⟩
abbrev main_while0b_v72 : Ref sig .tc := ⟨.hbm, 144, rfl⟩
abbrev main_while0b_v73 : Ref sig .tc := ⟨.hbm, 145, rfl⟩
abbrev main_while0b_v74 : Ref sig .tc := ⟨.hbm, 146, rfl⟩
abbrev main_while0b_cst_29 : Ref sig .tc := ⟨.hbm, 147, rfl⟩
abbrev main_while0b_v75 : Ref sig .tc := ⟨.hbm, 148, rfl⟩
abbrev main_while0b_v76 : Ref sig .tc := ⟨.hbm, 149, rfl⟩
abbrev main_while0b_cst_30 : Ref sig .tc := ⟨.hbm, 150, rfl⟩
abbrev main_while0b_v77 : Ref sig .tc := ⟨.hbm, 151, rfl⟩
abbrev main_while0b_v78 : Ref sig .tc := ⟨.hbm, 152, rfl⟩
abbrev main_while0b_v79 : Ref sig .tc := ⟨.hbm, 153, rfl⟩
abbrev main_while0b_v80 : Ref sig .tc := ⟨.hbm, 154, rfl⟩
abbrev main_while0b_v81 : Ref sig .tc := ⟨.hbm, 155, rfl⟩
abbrev main_while0b_v82 : Ref sig .tc := ⟨.hbm, 156, rfl⟩
abbrev main_while0b_v83 : Ref sig .tc := ⟨.hbm, 157, rfl⟩
abbrev main_while0b_v84 : Ref sig .tc := ⟨.hbm, 158, rfl⟩
abbrev main_while0b_v85 : Ref sig .tc := ⟨.hbm, 159, rfl⟩
abbrev main_while0b_v86 : Ref sig .tc := ⟨.hbm, 160, rfl⟩
abbrev main_while0b_v87 : Ref sig .tc := ⟨.hbm, 161, rfl⟩
abbrev main_while0b_v88 : Ref sig .tc := ⟨.hbm, 162, rfl⟩
abbrev main_while0b_v89 : Ref sig .tc := ⟨.hbm, 163, rfl⟩
abbrev main_while0b_v90 : Ref sig .tc := ⟨.hbm, 164, rfl⟩
abbrev main_while0b_v91 : Ref sig .tc := ⟨.hbm, 165, rfl⟩
abbrev main_while0b_cst_31 : Ref sig .tc := ⟨.hbm, 166, rfl⟩
abbrev main_while0b_v92 : Ref sig .tc := ⟨.hbm, 167, rfl⟩
abbrev main_while0b_v93 : Ref sig .tc := ⟨.hbm, 168, rfl⟩
abbrev main_while0b_v94 : Ref sig .tc := ⟨.hbm, 169, rfl⟩
abbrev main_while0b_v95 : Ref sig .tc := ⟨.hbm, 170, rfl⟩
abbrev main_while0b_v96 : Ref sig .tc := ⟨.hbm, 171, rfl⟩
abbrev main_while0b_v97 : Ref sig .tc := ⟨.hbm, 172, rfl⟩
abbrev main_while0b_v98 : Ref sig .tc := ⟨.hbm, 173, rfl⟩
abbrev main_while0b_v99 : Ref sig .tc := ⟨.hbm, 174, rfl⟩
abbrev main_while0b_v100 : Ref sig .tc := ⟨.hbm, 175, rfl⟩
abbrev main_while0b_v101 : Ref sig .tc := ⟨.hbm, 176, rfl⟩
abbrev main_while0b_v102 : Ref sig .tc := ⟨.hbm, 177, rfl⟩
abbrev main_while0b_v103 : Ref sig .tc := ⟨.hbm, 178, rfl⟩
abbrev main_while0b_v104 : Ref sig .tc := ⟨.hbm, 179, rfl⟩
abbrev main_while0b_v105 : Ref sig .tc := ⟨.hbm, 180, rfl⟩
abbrev main_while0b_v106 : Ref sig .tc := ⟨.hbm, 181, rfl⟩
abbrev main_while0b_v107 : Ref sig .tc := ⟨.hbm, 182, rfl⟩
abbrev main_while0b_v108 : Ref sig .tc := ⟨.hbm, 183, rfl⟩
abbrev main_while0b_v109 : Ref sig .tc := ⟨.hbm, 184, rfl⟩
abbrev main_while0b_cst_32 : Ref sig .tc := ⟨.hbm, 185, rfl⟩
abbrev main_while0b_v110 : Ref sig .tc := ⟨.hbm, 186, rfl⟩
abbrev main_while0b_v111 : Ref sig .tc := ⟨.hbm, 187, rfl⟩
abbrev main_while0b_cst_33 : Ref sig .tc := ⟨.hbm, 188, rfl⟩
abbrev main_while0b_v112 : Ref sig .tc := ⟨.hbm, 189, rfl⟩
abbrev main_while0b_cst_34 : Ref sig .tc := ⟨.hbm, 190, rfl⟩
abbrev main_while0b_v113 : Ref sig .tc := ⟨.hbm, 191, rfl⟩
abbrev main_while0b_v114 : Ref sig .tc := ⟨.hbm, 192, rfl⟩
abbrev main_while0b_v115 : Ref sig .tc := ⟨.hbm, 193, rfl⟩
abbrev main_while0b_v116 : Ref sig .tc := ⟨.hbm, 194, rfl⟩
abbrev main_while0b_v117 : Ref sig .tc := ⟨.hbm, 195, rfl⟩
abbrev main_while0b_v118 : Ref sig .tc := ⟨.hbm, 196, rfl⟩
abbrev main_while0b_cst_35 : Ref sig .tc := ⟨.hbm, 197, rfl⟩
abbrev main_while0b_v119 : Ref sig .tc := ⟨.hbm, 198, rfl⟩
abbrev main_while0b_v120 : Ref sig .tc := ⟨.hbm, 199, rfl⟩
abbrev main_while0b_v121 : Ref sig .tc := ⟨.hbm, 200, rfl⟩
abbrev main_while0b_v122 : Ref sig .tc := ⟨.hbm, 201, rfl⟩
abbrev main_while0b_v123 : Ref sig .tc := ⟨.hbm, 202, rfl⟩
abbrev main_while0b_v124 : Ref sig .tc := ⟨.hbm, 203, rfl⟩
abbrev main_while0b_v125 : Ref sig .tc := ⟨.hbm, 204, rfl⟩
abbrev main_while0b_v126 : Ref sig .tc := ⟨.hbm, 205, rfl⟩
abbrev main_while0b_v127 : Ref sig .tc := ⟨.hbm, 206, rfl⟩
abbrev main_while0b_v128 : Ref sig .tc := ⟨.hbm, 207, rfl⟩
abbrev main_while0b_v129 : Ref sig .tc := ⟨.hbm, 208, rfl⟩
abbrev main_while0b_v130 : Ref sig .tc := ⟨.hbm, 209, rfl⟩
abbrev main_while0b_v131 : Ref sig .tc := ⟨.hbm, 210, rfl⟩
abbrev main_while0b_v132 : Ref sig .tc := ⟨.hbm, 211, rfl⟩
abbrev main_while0b_v133 : Ref sig .tc := ⟨.hbm, 212, rfl⟩
abbrev main_while0b_cst_36 : Ref sig .tc := ⟨.hbm, 213, rfl⟩
abbrev main_while0b_v134 : Ref sig .tc := ⟨.hbm, 214, rfl⟩
abbrev main_while0b_v135 : Ref sig .tc := ⟨.hbm, 215, rfl⟩
abbrev main_while0b_v136 : Ref sig .tc := ⟨.hbm, 216, rfl⟩
abbrev main_while0b_v137 : Ref sig .tc := ⟨.hbm, 217, rfl⟩
abbrev main_while0b_v138 : Ref sig .tc := ⟨.hbm, 218, rfl⟩
abbrev main_while0b_v139 : Ref sig .tc := ⟨.hbm, 219, rfl⟩
abbrev main_while0b_v140 : Ref sig .tc := ⟨.hbm, 220, rfl⟩
abbrev main_while0b_cst_37 : Ref sig .tc := ⟨.hbm, 221, rfl⟩
abbrev main_while0b_v141 : Ref sig .tc := ⟨.hbm, 222, rfl⟩
abbrev main_while0b_v142 : Ref sig .tc := ⟨.hbm, 223, rfl⟩
abbrev main_while0b_v143 : Ref sig .tc := ⟨.hbm, 224, rfl⟩
abbrev main_while0b_v144 : Ref sig .tc := ⟨.hbm, 225, rfl⟩
abbrev main_while0b_v145 : Ref sig .tc := ⟨.hbm, 226, rfl⟩
abbrev main_while0b_v146 : Ref sig .tc := ⟨.hbm, 227, rfl⟩
abbrev main_while0b_v147 : Ref sig .tc := ⟨.hbm, 228, rfl⟩
abbrev main_while0b_call3_v0 : Ref sig .tc := ⟨.hbm, 229, rfl⟩
abbrev main_while0b_call3_c : Ref sig .tc := ⟨.hbm, 230, rfl⟩
abbrev main_while0b_v148 : Ref sig .tc := ⟨.hbm, 231, rfl⟩
abbrev main_while0b_call4_v0 : Ref sig .tc := ⟨.hbm, 232, rfl⟩
abbrev main_while0b_call4_c : Ref sig .tc := ⟨.hbm, 233, rfl⟩
abbrev main_while0b_v149 : Ref sig .tc := ⟨.hbm, 234, rfl⟩
abbrev main_while0b_c_38 : Ref sig .tc := ⟨.hbm, 235, rfl⟩
abbrev main_while0b_v150 : Ref sig .tc := ⟨.hbm, 236, rfl⟩
abbrev main_v4 : Ref sig .tc := ⟨.hbm, 237, rfl⟩
abbrev main_v5 : Ref sig .tc := ⟨.hbm, 238, rfl⟩

abbrev nD : Nat := 1
abbrev τ : Topo := Topo.v7x

variable {F : FTy → Type} [FloatOps F]

abbrev main_while0_count : Scf.Loop 32 := ⟨0#32, 2048#32, 1#32⟩
-- ==== Proof.KernelIdeal.Step.lean ====
/- One step of the recurrence that the kernel's inner loop runs, as a pure function: from the projected key and value
   of the step, the five weight matrices and the carried pair `(h, c)`, the carried pair of the next step, the routing
   weights' row and the selected experts' row. Each intermediate value is one definition over the kernel's own
   expressions. -/
module

public import proofs.«01_k».proof.Proof.Gen.KernelIdeal.Skeleton

@[expose] public section

noncomputable section

namespace Cert.KernelIdeal.Step

open Idealize.ShloMosaic Idealize.SL.Sem Cert.KernelIdeal Cert.KernelIdeal.Gen

variable {F : FTy → Type} [FloatOps F]

/-- The weights the kernel reads whole at each grid point: query, input gates, recurrent gates, the three attention
    projections side by side, and the attention output. -/
structure Weights (F : FTy → Type) [FloatOps F] where
  wq : Vec F S128x512 .f32
  wi : Vec F S400x4096 .f32
  wh : Vec F S128x4096 .f32
  wa : Vec F S128x6144 .f32
  wo : Vec F S8x512x128 .f32

/-- The experts' numbers down a column, and the lanes' numbers along a row. -/
def rowIds : IVec S8x1 32 := iota .tc S8x1 32 [0] iota_S8x1_d0_w32
def laneIds : IVec S1x128 32 := iota .tc S1x128 32 [1] iota_S1x128_d1_w32

variable (W : Weights F) (k : Vec F S1x2x64 .f32) (v : Vec F S1x2x400 .f32) (h c : Vec F S8x128 .f32)

/-- The scores of each expert against the input's key and the null key. -/
def scores : FVec F S8x2 .f32 :=
  k0_pay17 rowIds (k0_pay10 k) (k0_pay12 (k0_pay3 W.wq) h) (k0_pay13 rowIds (k0_pay3 W.wq) h) (k0_pay14 (k0_pay3 W.wq) h)
    (k0_pay15 rowIds) (k0_pay16 (F := F))
/-- The expert with the greatest score against the input's key. -/
def pick1 : BitVec 32 :=
  extractAt ![0, 0, 0] (k0_pay19 rowIds (k0_pay10 k) (k0_pay12 (k0_pay3 W.wq) h) (k0_pay13 rowIds (k0_pay3 W.wq) h)
    (k0_pay14 (k0_pay3 W.wq) h) (k0_pay15 rowIds) (k0_pay16 (F := F))) inpos_S1x1x1_p0_0_0
/-- The scores with the first pick's put to −∞, as a column and as a batch of one. -/
def rest : FVec F S8x1 .f32 :=
  k0_pay20 rowIds (k0_pay10 k) (k0_pay12 (k0_pay3 W.wq) h) (k0_pay13 rowIds (k0_pay3 W.wq) h) (k0_pay14 (k0_pay3 W.wq) h)
    (k0_pay15 rowIds) (k0_pay16 (F := F))
def rest3 : FVec F S1x8x1 .f32 :=
  k0_pay21 rowIds (k0_pay10 k) (k0_pay12 (k0_pay3 W.wq) h) (k0_pay13 rowIds (k0_pay3 W.wq) h) (k0_pay14 (k0_pay3 W.wq) h)
    (k0_pay15 rowIds) (k0_pay16 (F := F))
/-- The expert with the greatest of the remaining scores. -/
def pick2 : BitVec 32 :=
  extractAt ![0, 0, 0] (k0_pay22 rowIds (rest W k h) (rest3 W k h)) inpos_S1x1x1_p0_0_0
/-- Which experts are selected, as 1 and 0. -/
def mask : FVec F S8x1 .f32 := k0_pay23 rowIds (pick1 W k h) (rest W k h) (rest3 W k h)
/-- The attention over the two values, masked. -/
def inputs : FVec F S8x400 .f32 :=
  k0_pay29 rowIds (k0_pay11 v) (scores W k h) (pick1 W k h) (rest W k h) (rest3 W k h)
/-- Every expert's input through every expert's gates, and the diagonal blocks of it. -/
def gatesIn : FVec F S8x4096 .f32 := k0_pay30 (k0_pay4 W.wi) (inputs W k v h) (constant S8x4096 .f32 0x00000000#32)
def gatesInDiag : FVec F S8x512 .f32 :=
  k0_pay32 rowIds (gatesIn W k v h) (k0_pay31 rowIds (k0_pay4 W.wi) (inputs W k v h) (constant S8x4096 .f32 0x00000000#32))
/-- The cell and the hidden state the gates give. -/
def cellNew : FVec F S8x128 .f32 :=
  k0_pay37 rowIds c (gatesInDiag W k v h) (k0_pay33 (k0_pay5 W.wh) h) (k0_pay34 rowIds (k0_pay5 W.wh) h) (k0_pay35 rowIds (k0_pay5 W.wh) h)
def hidNew : FVec F S8x128 .f32 :=
  k0_pay38 rowIds c (gatesInDiag W k v h) (k0_pay33 (k0_pay5 W.wh) h) (k0_pay34 rowIds (k0_pay5 W.wh) h) (k0_pay35 rowIds (k0_pay5 W.wh) h)
/-- The new hidden state through all three attention projections, and the queries' part of it. -/
def proj : FVec F S8x6144 .f32 :=
  k0_pay39 rowIds (k0_pay6 W.wa) c (gatesInDiag W k v h) (k0_pay33 (k0_pay5 W.wh) h) (k0_pay34 rowIds (k0_pay5 W.wh) h) (k0_pay35 rowIds (k0_pay5 W.wh) h)
def projQ : FVec F S8x1024 .f32 :=
  k0_pay40 rowIds (k0_pay6 W.wa) c (gatesInDiag W k v h) (k0_pay33 (k0_pay5 W.wh) h) (k0_pay34 rowIds (k0_pay5 W.wh) h) (k0_pay35 rowIds (k0_pay5 W.wh) h)
/-- The communication's queries, keys and values, each expert by its own projection. -/
def query : FVec F S8x128 .f32 :=
  k0_pay44 rowIds (projQ W k v h c) (k0_pay42 rowIds (projQ W k v h c) k0_pay41) (k0_pay43 rowIds)
def key : FVec F S8x128 .f32 :=
  k0_pay48 rowIds (k0_pay45 (proj W k v h c)) (k0_pay46 rowIds (proj W k v h c)) (k0_pay47 rowIds)
def value : FVec F S8x512 .f32 :=
  k0_pay52 rowIds (k0_pay49 (proj W k v h c)) (k0_pay50 rowIds (proj W k v h c)) (k0_pay51 rowIds)
/-- The first three heads' contexts. -/
def head0 : FVec F S8x128 .f32 :=
  k0_pay56 (k0_pay53 (query W k v h c)) (k0_pay54 (key W k v h c))
    (k0_pay55 rowIds (k0_pay49 (proj W k v h c)) (k0_pay50 rowIds (proj W k v h c)) (k0_pay51 rowIds))
def head1 : FVec F S8x128 .f32 := k0_pay57 (query W k v h c) (key W k v h c) (value W k v h c)
def head2 : FVec F S8x128 .f32 := k0_pay58 (query W k v h c) (key W k v h c) (value W k v h c)
/-- The next carried pair. -/
def hNext : FVec F S8x128 .f32 :=
  k0_pay59 W.wo h (mask W k h) (hidNew W k v h c) (query W k v h c) (key W k v h c) (value W k v h c)
    (head0 W k v h c) (head1 W k v h c) (head2 W k v h c)
def cNext : FVec F S8x128 .f32 := k0_pay60 c (mask W k h) (cellNew W k v h c)
/-- The row of routing weights and the row of selected experts. -/
def weightRow : FVec F S1x128 .f32 :=
  k0_pay61 laneIds (k0_pay26 rowIds (scores W k h) (pick1 W k h) (rest W k h) (rest3 W k h))
    (k0_pay27 rowIds (scores W k h) (pick1 W k h) (rest W k h) (rest3 W k h))
    (k0_pay28 rowIds (scores W k h) (pick1 W k h) (rest W k h) (rest3 W k h))
def expertRow : IVec S1x128 32 :=
  k0_pay7 (Scalar.minsi (pick1 W k h) (pick2 W k h)) (Scalar.maxsi (pick1 W k h) (pick2 W k h))

/-- The next carried pair, of the pair. -/
def next (s : Vec F S8x128 .f32 × Vec F S8x128 .f32) : Vec F S8x128 .f32 × Vec F S8x128 .f32 :=
  (hNext W k v s.1 s.2, cNext W k v s.1 s.2)

/-- The carried pair before step `n`, from a sequence of keys and values and a first pair. -/
def run (ks : ℕ → Vec F S1x2x64 .f32) (vs : ℕ → Vec F S1x2x400 .f32) (s : Vec F S8x128 .f32 × Vec F S8x128 .f32) :
    ℕ → Vec F S8x128 .f32 × Vec F S8x128 .f32
  | 0 => s
  | n + 1 => next W (ks n) (vs n) (run ks vs s n)

end Cert.KernelIdeal.Step

end
-- ==== Proof.KernelIdeal.Trip.lean ====
/- What one trip of the kernel's inner loop yields and stores: the step of `Step.lean`. -/
module

public import proofs.«01_k».proof.Proof.Gen.KernelIdeal.Loops
public import proofs.«01_k».proof.Proof.KernelIdeal.Step
public import Idealize.ShloMosaic.Lib.WritesUnit
public import Idealize.ShloMosaic.Lib.ValueIdxCore

@[expose] public section

set_option maxRecDepth 16384

noncomputable section

namespace Cert.KernelIdeal.Trip

open Idealize.ShloMosaic Idealize.ShloMosaic.TcCoe Idealize.SL.Sem Cert.KernelIdeal Cert.KernelIdeal.Gen

variable {F : FTy → Type} [FloatOps F]

section
variable (𝒱 : Variants) (c : Dev nD) (bd : Option 𝒱.V) (i : grid0.Coords)
  (arg1 : Memref sig .tc .vmem S256x2x64 .f32) (harg1 : arg1.IsWhole) (arg2 : Memref sig .tc .vmem S256x2x400 .f32) (harg2 : arg2.IsWhole)
  (arg3 : Memref sig .tc .vmem S1x8x128 .f32) (harg3 : arg3.IsWhole) (arg4 : Memref sig .tc .vmem S1x8x128 .f32) (harg4 : arg4.IsWhole)
  (arg5 : Memref sig .tc .vmem S128x512 .f32) (harg5 : arg5.IsWhole) (arg6 : Memref sig .tc .vmem S400x4096 .f32) (harg6 : arg6.IsWhole)
  (arg7 : Memref sig .tc .vmem S128x4096 .f32) (harg7 : arg7.IsWhole) (arg8 : Memref sig .tc .vmem S128x6144 .f32) (harg8 : arg8.IsWhole)
  (arg9 : Memref sig .tc .vmem S8x512x128 .f32) (harg9 : arg9.IsWhole) (arg10 : Memref sig .tc .vmem S256x128 .f32) (harg10 : arg10.IsWhole)
  (arg11 : Memref sig .tc .vmem S256x128 .i32) (harg11 : arg11.IsWhole) (arg12 : Memref sig .tc .vmem S8x128 .f32) (harg12 : arg12.IsWhole)
  (arg13 : Memref sig .tc .vmem S8x128 .f32) (harg13 : arg13.IsWhole)
  (W : Step.Weights F) (x1 : BufTy.Contents (Elt F) arg1.view.ty) (x2 : BufTy.Contents (Elt F) arg2.view.ty)
  (k : Fin k0_t1_loop.trips) (s : Vec F S8x128 .f32 × Vec F S8x128 .f32)

/-- The projected key of trip `k`, and the projected value. -/
abbrev kRow : Vec F S1x2x64 .f32 :=
  arg1.view.readAt (Elt F) (Rect.unit (s := S256x2x64) (k0_off1 k) S1x2x64.size (k0_off1_inb k)).toLoadRect x1
abbrev vRow : Vec F S1x2x400 .f32 :=
  arg2.view.readAt (Elt F) (Rect.unit (s := S256x2x400) (k0_off2 k) S1x2x400.size (k0_off2_inb k)).toLoadRect x2

/-- A trip yields the next carried pair. -/
theorem tripR : tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13
      Step.rowIds Step.laneIds W.wq W.wi W.wh W.wa W.wo x1 x2 k s = Step.next W (kRow arg1 x1 k) (vRow arg2 x2 k) s := by
  unfold tripR_k0_t1 trip_k0_t1
  dsimp only
  rfl

/-- A trip stores its two rows, one piece each. -/
theorem tripL : tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13
      Step.rowIds Step.laneIds W.wq W.wi W.wh W.wa W.wo x1 x2 k s
    = ([⟨Rect.unit (s := S256x128) (k0_off3 k) S1x128.size (k0_off3_inb k), Step.weightRow W (kRow arg1 x1 k) s.1⟩],
       [⟨Rect.unit (s := S256x128) (k0_off3 k) S1x128.size (k0_off3_inb k), Step.expertRow W (kRow arg1 x1 k) s.1⟩]) := by
  unfold tripL_k0_t1 trip_k0_t1
  dsimp only
  rfl

variable (ks : ℕ → Vec F S1x2x64 .f32) (vs : ℕ → Vec F S1x2x400 .f32)

theorem trips_eq : k0_t1_loop.trips = 256 := by decide +kernel

/-- The loop's state before trip `n`, as the loop's own recursion gives it. -/
abbrev state (n : ℕ) := st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13
      Step.rowIds Step.laneIds W.wq W.wi W.wh W.wa W.wo x1 x2 s n

/-- One trip onward: the next pair, and a row's piece in front of each list. -/
theorem state_succ (n : ℕ) (hn : n < 256) : state 𝒱 c bd i arg1 harg1 arg2 harg2 arg3 harg3 arg4 harg4 arg5 harg5 arg6 harg6 arg7 harg7 arg8 harg8 arg9 harg9 arg10 harg10 arg11 harg11 arg12 harg12 arg13 harg13 W x1 x2 s (n + 1)
    = (Step.next W (kRow arg1 x1 ⟨n, by rw [trips_eq]; exact hn⟩) (vRow arg2 x2 ⟨n, by rw [trips_eq]; exact hn⟩) (state 𝒱 c bd i arg1 harg1 arg2 harg2 arg3 harg3 arg4 harg4 arg5 harg5 arg6 harg6 arg7 harg7 arg8 harg8 arg9 harg9 arg10 harg10 arg11 harg11 arg12 harg12 arg13 harg13 W x1 x2 s n).1,
       ⟨Rect.unit (s := S256x128) (k0_off3 ⟨n, by rw [trips_eq]; exact hn⟩) S1x128.size (k0_off3_inb _),
          Step.weightRow W (kRow arg1 x1 ⟨n, by rw [trips_eq]; exact hn⟩) (state 𝒱 c bd i arg1 harg1 arg2 harg2 arg3 harg3 arg4 harg4 arg5 harg5 arg6 harg6 arg7 harg7 arg8 harg8 arg9 harg9 arg10 harg10 arg11 harg11 arg12 harg12 arg13 harg13 W x1 x2 s n).1.1⟩ :: (state 𝒱 c bd i arg1 harg1 arg2 harg2 arg3 harg3 arg4 harg4 arg5 harg5 arg6 harg6 arg7 harg7 arg8 harg8 arg9 harg9 arg10 harg10 arg11 harg11 arg12 harg12 arg13 harg13 W x1 x2 s n).2.1,
       ⟨Rect.unit (s := S256x128) (k0_off3 ⟨n, by rw [trips_eq]; exact hn⟩) S1x128.size (k0_off3_inb _),
          Step.expertRow W (kRow arg1 x1 ⟨n, by rw [trips_eq]; exact hn⟩) (state 𝒱 c bd i arg1 harg1 arg2 harg2 arg3 harg3 arg4 harg4 arg5 harg5 arg6 harg6 arg7 harg7 arg8 harg8 arg9 harg9 arg10 harg10 arg11 harg11 arg12 harg12 arg13 harg13 W x1 x2 s n).1.1⟩ :: (state 𝒱 c bd i arg1 harg1 arg2 harg2 arg3 harg3 arg4 harg4 arg5 harg5 arg6 harg6 arg7 harg7 arg8 harg8 arg9 harg9 arg10 harg10 arg11 harg11 arg12 harg12 arg13 harg13 W x1 x2 s n).2.2) := by
  have h := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13
      Step.rowIds Step.laneIds W.wq W.wi W.wh W.wa W.wo x1 x2 s ⟨n, by rw [trips_eq]; exact hn⟩
  refine h.trans ?_
  rw [tripR, tripL]
  rfl

variable (hk : ∀ k, kRow arg1 x1 k = ks k.val) (hv : ∀ k, vRow arg2 x2 k = vs k.val)

include hk hv in
/-- Before trip `n` the loop carries the recurrence's pair number `n`. -/
theorem carried : ∀ n, n ≤ 256 → (state 𝒱 c bd i arg1 harg1 arg2 harg2 arg3 harg3 arg4 harg4 arg5 harg5 arg6 harg6 arg7 harg7 arg8 harg8 arg9 harg9 arg10 harg10 arg11 harg11 arg12 harg12 arg13 harg13 W x1 x2 s n).1 = Step.run W ks vs s n
  | 0, _ => rfl
  | n + 1, hn => by
    rw [state_succ 𝒱 c bd i arg1 harg1 arg2 harg2 arg3 harg3 arg4 harg4 arg5 harg5 arg6 harg6 arg7 harg7 arg8 harg8 arg9 harg9 arg10 harg10 arg11 harg11 arg12 harg12 arg13 harg13 W x1 x2 s n (by omega)]
    dsimp only
    rw [carried n (by omega), hk, hv]
    rfl

include hk hv in
/-- The pieces of the trips before `n` leave row `r < n` of the weights' buffer at step `r`'s row. -/
theorem weights_read (f : BufTy.Contents (Elt F) arg10.view.ty) (y : S256x128.Idx) : ∀ n, n ≤ 256 → (y 0).val < n →
    arg10.view.read (Elt F) (arg10.view.writes (Elt F) f (state 𝒱 c bd i arg1 harg1 arg2 harg2 arg3 harg3 arg4 harg4 arg5 harg5 arg6 harg6 arg7 harg7 arg8 harg8 arg9 harg9 arg10 harg10 arg11 harg11 arg12 harg12 arg13 harg13 W x1 x2 s n).2.1) y
      = Step.weightRow W (ks (y 0).val) (Step.run W ks vs s (y 0).val).1 (ValueIdx.ix2 0 (y 1))
  | 0, _, h => absurd h (Nat.not_lt_zero _)
  | n + 1, hn, hy => by
    rw [state_succ 𝒱 c bd i arg1 harg1 arg2 harg2 arg3 harg3 arg4 harg4 arg5 harg5 arg6 harg6 arg7 harg7 arg8 harg8 arg9 harg9 arg10 harg10 arg11 harg11 arg12 harg12 arg13 harg13 W x1 x2 s n (by omega),
      carried 𝒱 c bd i arg1 harg1 arg2 harg2 arg3 harg3 arg4 harg4 arg5 harg5 arg6 harg6 arg7 harg7 arg8 harg8 arg9 harg9 arg10 harg10 arg11 harg11 arg12 harg12 arg13 harg13 W x1 x2 s ks vs hk hv n (by omega), hk]
    by_cases hlt : (y 0).val < n
    · refine (View.read_writes_cons_rows_of_not_mem arg10.view f _ _ _ y (o := n) (W := 1) (k0_off3_eq _) rfl (Or.inl hlt)).trans ?_
      exact weights_read f y n (by omega) hlt
    · have he : (y 0).val = n := by omega
      refine (View.read_writes_cons_rows_of_mem (size := S1x128.size) arg10.view f (k0_off3_inb _) _ _ y (ValueIdx.ix2 0 (y 1)) (o := n) (k0_off3_eq ⟨n, by rw [trips_eq]; omega⟩) (by rw [he]; rfl) rfl).trans ?_
      rw [he]

include hk hv in
/-- The pieces of the trips before `n` leave row `r < n` of the experts' buffer at step `r`'s row. -/
theorem experts_read (f : BufTy.Contents (Elt F) arg11.view.ty) (y : S256x128.Idx) : ∀ n, n ≤ 256 → (y 0).val < n →
    arg11.view.read (Elt F) (arg11.view.writes (Elt F) f (state 𝒱 c bd i arg1 harg1 arg2 harg2 arg3 harg3 arg4 harg4 arg5 harg5 arg6 harg6 arg7 harg7 arg8 harg8 arg9 harg9 arg10 harg10 arg11 harg11 arg12 harg12 arg13 harg13 W x1 x2 s n).2.2) y
      = Step.expertRow W (ks (y 0).val) (Step.run W ks vs s (y 0).val).1 (ValueIdx.ix2 0 (y 1))
  | 0, _, h => absurd h (Nat.not_lt_zero _)
  | n + 1, hn, hy => by
    rw [state_succ 𝒱 c bd i arg1 harg1 arg2 harg2 arg3 harg3 arg4 harg4 arg5 harg5 arg6 harg6 arg7 harg7 arg8 harg8 arg9 harg9 arg10 harg10 arg11 harg11 arg12 harg12 arg13 harg13 W x1 x2 s n (by omega),
      carried 𝒱 c bd i arg1 harg1 arg2 harg2 arg3 harg3 arg4 harg4 arg5 harg5 arg6 harg6 arg7 harg7 arg8 harg8 arg9 harg9 arg10 harg10 arg11 harg11 arg12 harg12 arg13 harg13 W x1 x2 s ks vs hk hv n (by omega), hk]
    by_cases hlt : (y 0).val < n
    · refine (View.read_writes_cons_rows_of_not_mem arg11.view f _ _ _ y (o := n) (W := 1) (k0_off3_eq _) rfl (Or.inl hlt)).trans ?_
      exact experts_read f y n (by omega) hlt
    · have he : (y 0).val = n := by omega
      refine (View.read_writes_cons_rows_of_mem (size := S1x128.size) arg11.view f (k0_off3_inb _) _ _ y (ValueIdx.ix2 0 (y 1)) (o := n) (k0_off3_eq ⟨n, by rw [trips_eq]; omega⟩) (by rw [he]; rfl) rfl).trans ?_
      rw [he]
end
end Cert.KernelIdeal.Trip
-- ==== Proof.KernelIdeal.Body.lean ====
/- The kernel's body at one grid point: from the point's blocks and the carried pair, the two output blocks and the pair
   carried to the next point, all as the recurrence of `Step.lean`. -/
module

public import proofs.«01_k».proof.Proof.KernelIdeal.Trip
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- Row `n` of a block of keys, and of a block of values (the row's number modulo the block's 256 rows). -/
def rowK (x : Vec F S256x2x64 .f32) (n : ℕ) : Vec F S1x2x64 .f32 :=
  fun y => x (ValueIdx.ix3 ⟨n % 256, Nat.mod_lt _ (by decide)⟩ (y 1) (y 2))
def rowV (x : Vec F S256x2x400 .f32) (n : ℕ) : Vec F S1x2x400 .f32 :=
  fun y => x (ValueIdx.ix3 ⟨n % 256, Nat.mod_lt _ (by decide)⟩ (y 1) (y 2))

/-- The pair carried into trip `n` of a point, and the point's two output blocks. -/
abbrev pairAt (W : Step.Weights F) (x0 : Vec F S256x2x64 .f32) (x1 : Vec F S256x2x400 .f32) (s : Vec F S8x128 .f32 × Vec F S8x128 .f32) (n : ℕ) :=
  Step.run W (rowK x0) (rowV x1) s n
def outW (W : Step.Weights F) (x0 : Vec F S256x2x64 .f32) (x1 : Vec F S256x2x400 .f32) (s : Vec F S8x128 .f32 × Vec F S8x128 .f32) :
    Vec F S256x128 .f32 :=
  fun y => Step.weightRow W (rowK x0 (y 0).val) (pairAt W x0 x1 s (y 0).val).1 (ValueIdx.ix2 0 (y 1))
def outE (W : Step.Weights F) (x0 : Vec F S256x2x64 .f32) (x1 : Vec F S256x2x400 .f32) (s : Vec F S8x128 .f32 × Vec F S8x128 .f32) :
    Vec F S256x128 .i32 :=
  fun y => Step.expertRow W (rowK x0 (y 0).val) (pairAt W x0 x1 s (y 0).val).1 (ValueIdx.ix2 0 (y 1))

section
variable (c : Dev nD) (i : grid0.Coords) (arg1 : Memref sig .tc .vmem S256x2x64 .f32) (harg1 : arg1.IsWhole)
  (arg2 : Memref sig .tc .vmem S256x2x400 .f32) (harg2 : arg2.IsWhole)
  (arg3 : Memref sig .tc .vmem S1x8x128 .f32) (harg3 : arg3.IsWhole)
  (arg4 : Memref sig .tc .vmem S1x8x128 .f32) (harg4 : arg4.IsWhole)
  (arg5 : Memref sig .tc .vmem S128x512 .f32) (harg5 : arg5.IsWhole)
  (arg6 : Memref sig .tc .vmem S400x4096 .f32) (harg6 : arg6.IsWhole)
  (arg7 : Memref sig .tc .vmem S128x4096 .f32) (harg7 : arg7.IsWhole)
  (arg8 : Memref sig .tc .vmem S128x6144 .f32) (harg8 : arg8.IsWhole)
  (arg9 : Memref sig .tc .vmem S8x512x128 .f32) (harg9 : arg9.IsWhole)
  (arg10 : Memref sig .tc .vmem S256x128 .f32) (harg10 : arg10.IsWhole)
  (arg11 : Memref sig .tc .vmem S256x128 .i32) (harg11 : arg11.IsWhole)
  (arg12 : Memref sig .tc .vmem S8x128 .f32) (harg12 : arg12.IsWhole)
  (arg13 : Memref sig .tc .vmem S8x128 .f32) (harg13 : arg13.IsWhole)
  (x0 : Vec F S256x2x64 .f32)
  (x1 : Vec F S256x2x400 .f32)
  (x2 : Vec F S1x8x128 .f32)
  (x3 : Vec F S1x8x128 .f32)
  (x4 : Vec F S128x512 .f32)
  (x5 : Vec F S400x4096 .f32)
  (x6 : Vec F S128x4096 .f32)
  (x7 : Vec F S128x6144 .f32)
  (x8 : Vec F S8x512x128 .f32)

theorem kRow_unread (k : Fin k0_t1_loop.trips) : Trip.kRow arg1 (harg1.unread x0) k = rowK x0 k.val := by
  unfold Trip.kRow
  rw [View.readAt_eq_ld, harg1.read_unread]
  funext y
  show x0 _ = x0 _
  congr 1
  have hk : k.val < 256 := lt_of_lt_of_eq k.isLt Trip.trips_eq
  funext a
  apply Fin.ext
  have e0 : k0_off1 k 0 = k.val := congrFun (k0_off1_eq k) 0
  have e1 : k0_off1 k 1 = 0 := congrFun (k0_off1_eq k) 1
  have e2 : k0_off1 k 2 = 0 := congrFun (k0_off1_eq k) 2
  have h1 : (y 0).val < 1 := (y 0).isLt
  fin_cases a
  · show k0_off1 k 0 + 1 * (y 0).val = k.val % 256
    omega
  · show k0_off1 k 1 + 1 * (y 1).val = (y 1).val
    omega
  · show k0_off1 k 2 + 1 * (y 2).val = (y 2).val
    omega

theorem vRow_unread (k : Fin k0_t1_loop.trips) : Trip.vRow arg2 (harg2.unread x1) k = rowV x1 k.val := by
  unfold Trip.vRow
  rw [View.readAt_eq_ld, harg2.read_unread]
  funext y
  show x1 _ = x1 _
  congr 1
  have hk : k.val < 256 := lt_of_lt_of_eq k.isLt Trip.trips_eq
  funext a
  apply Fin.ext
  have e0 : k0_off2 k 0 = k.val := congrFun (k0_off2_eq k) 0
  have e1 : k0_off2 k 1 = 0 := congrFun (k0_off2_eq k) 1
  have e2 : k0_off2 k 2 = 0 := congrFun (k0_off2_eq k) 2
  have h1 : (y 0).val < 1 := (y 0).isLt
  fin_cases a
  · show k0_off2 k 0 + 1 * (y 0).val = k.val % 256
    omega
  · show k0_off2 k 1 + 1 * (y 1).val = (y 1).val
    omega
  · show k0_off2 k 2 + 1 * (y 2).val = (y 2).val
    omega

variable (W : Step.Weights F) (s : Vec F S8x128 .f32 × Vec F S8x128 .f32)

/-- After the last trip: the carried pair, the weights' buffer and the experts' buffer. -/
theorem pair_out : (Trip.state Variants.none c none i arg1 harg1 arg2 harg2 arg3 harg3 arg4 harg4 arg5 harg5 arg6 harg6 arg7 harg7 arg8 harg8 arg9 harg9 arg10 harg10 arg11 harg11 arg12 harg12 arg13 harg13 W (harg1.unread x0) (harg2.unread x1) s 256).1 = pairAt W x0 x1 s 256 :=
  Trip.carried Variants.none c none i arg1 harg1 arg2 harg2 arg3 harg3 arg4 harg4 arg5 harg5 arg6 harg6 arg7 harg7 arg8 harg8 arg9 harg9 arg10 harg10 arg11 harg11 arg12 harg12 arg13 harg13 W (harg1.unread x0) (harg2.unread x1) s (rowK x0) (rowV x1)
    (kRow_unread arg1 harg1 x0) (vRow_unread arg2 harg2 x1) 256 le_rfl
theorem weights_out (f : BufTy.Contents (Elt F) arg10.view.ty) :
    arg10.view.read (Elt F) (arg10.view.writes (Elt F) f (Trip.state Variants.none c none i arg1 harg1 arg2 harg2 arg3 harg3 arg4 harg4 arg5 harg5 arg6 harg6 arg7 harg7 arg8 harg8 arg9 harg9 arg10 harg10 arg11 harg11 arg12 harg12 arg13 harg13 W (harg1.unread x0) (harg2.unread x1) s 256).2.1) = outW W x0 x1 s :=
  funext fun y => Trip.weights_read Variants.none c none i arg1 harg1 arg2 harg2 arg3 harg3 arg4 harg4 arg5 harg5 arg6 harg6 arg7 harg7 arg8 harg8 arg9 harg9 arg10 harg10 arg11 harg11 arg12 harg12 arg13 harg13 W (harg1.unread x0) (harg2.unread x1) s (rowK x0) (rowV x1)
    (kRow_unread arg1 harg1 x0) (vRow_unread arg2 harg2 x1) f y 256 le_rfl (y 0).isLt
theorem experts_out (f : BufTy.Contents (Elt F) arg11.view.ty) :
    arg11.view.read (Elt F) (arg11.view.writes (Elt F) f (Trip.state Variants.none c none i arg1 harg1 arg2 harg2 arg3 harg3 arg4 harg4 arg5 harg5 arg6 harg6 arg7 harg7 arg8 harg8 arg9 harg9 arg10 harg10 arg11 harg11 arg12 harg12 arg13 harg13 W (harg1.unread x0) (harg2.unread x1) s 256).2.2) = outE W x0 x1 s :=
  funext fun y => Trip.experts_read Variants.none c none i arg1 harg1 arg2 harg2 arg3 harg3 arg4 harg4 arg5 harg5 arg6 harg6 arg7 harg7 arg8 harg8 arg9 harg9 arg10 harg10 arg11 harg11 arg12 harg12 arg13 harg13 W (harg1.unread x0) (harg2.unread x1) s (rowK x0) (rowV x1)
    (kRow_unread arg1 harg1 x0) (vRow_unread arg2 harg2 x1) f y 256 le_rfl (y 0).isLt
/-- What the body stores into the scratch after the last trip. -/
theorem store_pair1 (x : Vec F S8x128 .f32) : k0_pay8 x = x := by unfold k0_pay8; exact shapeCast_self ..
theorem store_pair2 (x : Vec F S8x128 .f32) : k0_pay9 x = x := by unfold k0_pay9; exact shapeCast_self ..

set_option maxHeartbeats 1000000 in
/-- At the first point, where the body first stores the given pair into the scratch. -/
theorem first_point (hc0 : Scalar.cmpi .ne (Scalar.extui (Scalar.cmpi .eq (BitVec.ofNat 32 (i 0).val) 0#32)) 0#32 = (1#1 : BitVec 1))
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (outW (Step.Weights.mk x4 x5 x6 x7 x8) x0 x1 (k0_pay1 x2, k0_pay2 x3)) ∗ owns (c : Thread nD τ) arg11 fullShare (outE (Step.Weights.mk x4 x5 x6 x7 x8) x0 x1 (k0_pay1 x2, k0_pay2 x3))
            ∗ owns (c : Thread nD τ) arg12 fullShare (pairAt (Step.Weights.mk x4 x5 x6 x7 x8) x0 x1 (k0_pay1 x2, k0_pay2 x3) 256).1 ∗ owns (c : Thread nD τ) arg13 fullShare (pairAt (Step.Weights.mk x4 x5 x6 x7 x8) x0 x1 (k0_pay1 x2, k0_pay2 x3) 256).2) -∗ K ⟨⟩))
      ⊢ wp frame (wpE (defs₀ (F := F)) Variants.none c none) E (cc0__stage2 i arg1 harg1 arg2 harg2 arg3 harg3 arg4 harg4 arg5 harg5 arg6 harg6 arg7 harg7 arg8 harg8 arg9 harg9 arg10 harg10 arg11 harg11 arg12 harg12 arg13 harg13) K := by
  simp only [cc0__stage2_eq_skeleton]; unfold cc0__stage2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  have l5 : arg5.view.readAt (Elt F) (Rect.unit (s := S128x512) ![0, 0] S128x512.size inb_S128x512_S128x512_0_0).toLoadRect (harg5.unread x4) = x4 := (View.readAt_full ..).trans (harg5.read_unread _)
  have l6 : arg6.view.readAt (Elt F) (Rect.unit (s := S400x4096) ![0, 0] S400x4096.size inb_S400x4096_S400x4096_0_0).toLoadRect (harg6.unread x5) = x5 := (View.readAt_full ..).trans (harg6.read_unread _)
  have l7 : arg7.view.readAt (Elt F) (Rect.unit (s := S128x4096) ![0, 0] S128x4096.size inb_S128x4096_S128x4096_0_0).toLoadRect (harg7.unread x6) = x6 := (View.readAt_full ..).trans (harg7.read_unread _)
  have l8 : arg8.view.readAt (Elt F) (Rect.unit (s := S128x6144) ![0, 0] S128x6144.size inb_S128x6144_S128x6144_0_0).toLoadRect (harg8.unread x7) = x7 := (View.readAt_full ..).trans (harg8.read_unread _)
  have l9 : arg9.view.readAt (Elt F) (Rect.unit (s := S8x512x128) ![0, 0, 0] S8x512x128.size inb_S8x512x128_S8x512x128_0_0_0).toLoadRect (harg9.unread x8) = x8 := (View.readAt_full ..).trans (harg9.read_unread _)
  sl_exec (disch := first | sl_exact hc0)
  have e14 : first_point.sl.v14 c arg3 harg3 arg12 x2 = k0_pay1 x2 := by
    unfold first_point.sl.v14 first_point.sl.HS0_1
    rw [View.readCov_full]
    exact congrArg k0_pay1 ((View.readAt_full ..).trans (harg3.read_unread _))
  have e15 : first_point.sl.v15 c arg4 harg4 arg13 x3 = k0_pay2 x3 := by
    unfold first_point.sl.v15 first_point.sl.HS1_1
    rw [View.readCov_full]
    exact congrArg k0_pay2 ((View.readAt_full ..).trans (harg4.read_unread _))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    rw [e14, e15]
    exact weights_out c i arg1 harg1 arg2 harg2 arg3 harg3 arg4 harg4 arg5 harg5 arg6 harg6 arg7 harg7 arg8 harg8 arg9 harg9 arg10 harg10 arg11 harg11 arg12 harg12 arg13 harg13 x0 x1 (Step.Weights.mk x4 x5 x6 x7 x8) (k0_pay1 x2, k0_pay2 x3) f9
  isplitl [H10]
  · iexists _; isplitr; swap; · iexact H10
    ipureintro
    rw [e14, e15]
    exact experts_out c i arg1 harg1 arg2 harg2 arg3 harg3 arg4 harg4 arg5 harg5 arg6 harg6 arg7 harg7 arg8 harg8 arg9 harg9 arg10 harg10 arg11 harg11 arg12 harg12 arg13 harg13 x0 x1 (Step.Weights.mk x4 x5 x6 x7 x8) (k0_pay1 x2, k0_pay2 x3) f10
  isplitl [HS0]
  · iexists _; isplitr; swap; · iexact HS0
    ipureintro
    rw [View.read_writes_full, store_pair1, e14, e15]
    exact congrArg Prod.fst (pair_out c i arg1 harg1 arg2 harg2 arg3 harg3 arg4 harg4 arg5 harg5 arg6 harg6 arg7 harg7 arg8 harg8 arg9 harg9 arg10 harg10 arg11 harg11 arg12 harg12 arg13 harg13 x0 x1 (Step.Weights.mk x4 x5 x6 x7 x8) (k0_pay1 x2, k0_pay2 x3))
  iexists _; isplitr; swap; · iexact HS1
  ipureintro
  rw [View.read_writes_full, store_pair2, e14, e15]
  exact congrArg Prod.snd (pair_out c i arg1 harg1 arg2 harg2 arg3 harg3 arg4 harg4 arg5 harg5 arg6 harg6 arg7 harg7 arg8 harg8 arg9 harg9 arg10 harg10 arg11 harg11 arg12 harg12 arg13 harg13 x0 x1 (Step.Weights.mk x4 x5 x6 x7 x8) (k0_pay1 x2, k0_pay2 x3))

set_option maxHeartbeats 1000000 in
/-- At a later point, where the scratch holds the pair the point before left. -/
theorem later_point (hc0 : ¬ Scalar.cmpi .ne (Scalar.extui (Scalar.cmpi .eq (BitVec.ofNat 32 (i 0).val) 0#32)) 0#32 = (1#1 : BitVec 1)) (xs0 xs1 : Vec F S8x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ owns (c : Thread nD τ) arg12 fullShare xs0 ∗ owns (c : Thread nD τ) arg13 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (outW (Step.Weights.mk x4 x5 x6 x7 x8) x0 x1 (xs0, xs1)) ∗ owns (c : Thread nD τ) arg11 fullShare (outE (Step.Weights.mk x4 x5 x6 x7 x8) x0 x1 (xs0, xs1))
            ∗ owns (c : Thread nD τ) arg12 fullShare (pairAt (Step.Weights.mk x4 x5 x6 x7 x8) x0 x1 (xs0, xs1) 256).1 ∗ owns (c : Thread nD τ) arg13 fullShare (pairAt (Step.Weights.mk x4 x5 x6 x7 x8) x0 x1 (xs0, xs1) 256).2) -∗ K ⟨⟩))
      ⊢ wp frame (wpE (defs₀ (F := F)) Variants.none c none) E (cc0__stage2 i arg1 harg1 arg2 harg2 arg3 harg3 arg4 harg4 arg5 harg5 arg6 harg6 arg7 harg7 arg8 harg8 arg9 harg9 arg10 harg10 arg11 harg11 arg12 harg12 arg13 harg13) K := by
  simp only [cc0__stage2_eq_skeleton]; unfold cc0__stage2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0; obtain rfl := harg13.eq_unread hfs1
  have l5 : arg5.view.readAt (Elt F) (Rect.unit (s := S128x512) ![0, 0] S128x512.size inb_S128x512_S128x512_0_0).toLoadRect (harg5.unread x4) = x4 := (View.readAt_full ..).trans (harg5.read_unread _)
  have l6 : arg6.view.readAt (Elt F) (Rect.unit (s := S400x4096) ![0, 0] S400x4096.size inb_S400x4096_S400x4096_0_0).toLoadRect (harg6.unread x5) = x5 := (View.readAt_full ..).trans (harg6.read_unread _)
  have l7 : arg7.view.readAt (Elt F) (Rect.unit (s := S128x4096) ![0, 0] S128x4096.size inb_S128x4096_S128x4096_0_0).toLoadRect (harg7.unread x6) = x6 := (View.readAt_full ..).trans (harg7.read_unread _)
  have l8 : arg8.view.readAt (Elt F) (Rect.unit (s := S128x6144) ![0, 0] S128x6144.size inb_S128x6144_S128x6144_0_0).toLoadRect (harg8.unread x7) = x7 := (View.readAt_full ..).trans (harg8.read_unread _)
  have l9 : arg9.view.readAt (Elt F) (Rect.unit (s := S8x512x128) ![0, 0, 0] S8x512x128.size inb_S8x512x128_S8x512x128_0_0_0).toLoadRect (harg9.unread x8) = x8 := (View.readAt_full ..).trans (harg9.read_unread _)
  have l12 : arg12.view.readAt (Elt F) (Rect.unit (s := S8x128) ![0, 0] S8x128.size inb_S8x128_S8x128_0_0).toLoadRect (harg12.unread xs0) = xs0 := (View.readAt_full ..).trans (harg12.read_unread _)
  have l13 : arg13.view.readAt (Elt F) (Rect.unit (s := S8x128) ![0, 0] S8x128.size inb_S8x128_S8x128_0_0).toLoadRect (harg13.unread xs1) = xs1 := (View.readAt_full ..).trans (harg13.read_unread _)
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    exact weights_out c i arg1 harg1 arg2 harg2 arg3 harg3 arg4 harg4 arg5 harg5 arg6 harg6 arg7 harg7 arg8 harg8 arg9 harg9 arg10 harg10 arg11 harg11 arg12 harg12 arg13 harg13 x0 x1 (Step.Weights.mk x4 x5 x6 x7 x8) (xs0, xs1) f9
  isplitl [H10]
  · iexists _; isplitr; swap; · iexact H10
    ipureintro
    exact experts_out c i arg1 harg1 arg2 harg2 arg3 harg3 arg4 harg4 arg5 harg5 arg6 harg6 arg7 harg7 arg8 harg8 arg9 harg9 arg10 harg10 arg11 harg11 arg12 harg12 arg13 harg13 x0 x1 (Step.Weights.mk x4 x5 x6 x7 x8) (xs0, xs1) f10
  isplitl [HS0]
  · iexists _; isplitr; swap; · iexact HS0
    ipureintro
    rw [View.read_writes_full, store_pair1]
    exact congrArg Prod.fst (pair_out c i arg1 harg1 arg2 harg2 arg3 harg3 arg4 harg4 arg5 harg5 arg6 harg6 arg7 harg7 arg8 harg8 arg9 harg9 arg10 harg10 arg11 harg11 arg12 harg12 arg13 harg13 x0 x1 (Step.Weights.mk x4 x5 x6 x7 x8) (xs0, xs1))
  iexists _; isplitr; swap; · iexact HS1
  ipureintro
  rw [View.read_writes_full, store_pair2]
  exact congrArg Prod.snd (pair_out c i arg1 harg1 arg2 harg2 arg3 harg3 arg4 harg4 arg5 harg5 arg6 harg6 arg7 harg7 arg8 harg8 arg9 harg9 arg10 harg10 arg11 harg11 arg12 harg12 arg13 harg13 x0 x1 (Step.Weights.mk x4 x5 x6 x7 x8) (xs0, xs1))
end
end Cert.KernelIdeal.Body

end
-- ==== Proof.KernelIdeal.Region.lean ====
/- The kernel's region at any contents its arrays are entered with: what each grid point leaves in the outputs' staging
   buffers and in the scratch carried to the next point, and the body's obligation at every point. -/
module

public import proofs.«01_k».proof.Proof.KernelIdeal.Body

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds its block at every point, for any proof data that starts from the array and leaves the
block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! Each window's current staging memref at a point, and that it is a whole buffer; the two scratch operands. -/
abbrev ms0_0 (t : Fin cfg0.N) : Memref sig .tc .vmem S256x2x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2x400 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x6144 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .i32 := win0_10.stage (cfg0.slots t 10)
abbrev hs0_10 (t : Fin cfg0.N) : (ms0_10 t).IsWhole := hstage0_10 ((cfg0.slots t 10).cast nbuf0_10)
abbrev scM0_0 : Memref sig .tc .vmem S8x128 .f32 := Memref.whole cc0_scratch0
abbrev scM0_1 : Memref sig .tc .vmem S8x128 .f32 := Memref.whole cc0_scratch1

/-- What the launch hands the region beside its windows: both scratch buffers and the generator register at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Whether a point is the first: the body's condition in closed form. -/
theorem first_iff : ∀ t : Fin cfg0.N,
    Scalar.cmpi .ne (Scalar.extui (Scalar.cmpi .eq (BitVec.ofNat 32 (grid0.coords t 0).val) 0#32)) 0#32 = (1#1 : BitVec 1) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [e0]
    word_cmp
   : ∀ t : Fin grid0.N, Scalar.cmpi .ne (Scalar.extui (Scalar.cmpi .eq (BitVec.ofNat 32 (grid0.coords t 0).val) 0#32)) 0#32 = (1#1 : BitVec 1) ↔ t.val % 8 = 0)

/-- Point `n` of the grid (its number modulo 8). -/
def pt (n : ℕ) : Fin cfg0.N := ⟨n % 8, lt_of_lt_of_eq (Nat.mod_lt _ (by decide)) (show 8 = cfg0.N from N_0.symm)⟩
theorem pt_val (t : Fin cfg0.N) : pt t.val = t :=
  Fin.ext (Nat.mod_eq_of_lt (lt_of_lt_of_eq t.isLt (show cfg0.N = 8 from N_0)))

/-- The weights a point reads. -/
def weights (c : Dev nD) (t : Fin cfg0.N) : Step.Weights F :=
  ⟨iblk0 V c 4 t, iblk0 V c 5 t, iblk0 V c 6 t, iblk0 V c 7 t, iblk0 V c 8 t⟩
/-- The pair carried into point `n`: the given one, then what each point's 256 steps leave. -/
def pairs (c : Dev nD) : ℕ → Vec F S8x128 .f32 × Vec F S8x128 .f32
  | 0 => (k0_pay1 (iblk0 V c 2 (pt 0)), k0_pay2 (iblk0 V c 3 (pt 0)))
  | n + 1 => pairAt (weights V c (pt n)) (iblk0 V c 0 (pt n)) (iblk0 V c 1 (pt n)) (pairs c n) 256

/-- The region's invariant before point `n`: the scratch at anything before the first point, then at the carried pair. -/
def Phi (c : Dev nD) : (n : ℕ) → n ≤ cfg0.N → sProp 𝕄
  | 0, _ => Pipeline.ΦA spec0 c
  | n + 1, _ => iprop(iprop(owns (c : Thread nD τ) scM0_0 fullShare (pairs V c (n + 1)).1 ∗ owns (c : Thread nD τ) scM0_1 fullShare (pairs V c (n + 1)).2) ∗ (∃ r, prngReg c r))
theorem Phi_zero (c : Dev nD) (n : ℕ) (h : n ≤ cfg0.N) (hz : n = 0) : Phi V c n h = Pipeline.ΦA spec0 c := by
  subst hz; rfl
theorem Phi_pos (c : Dev nD) (n : ℕ) (h : n ≤ cfg0.N) (hz : n ≠ 0) :
    Phi V c n h = iprop(iprop(owns (c : Thread nD τ) scM0_0 fullShare (pairs V c n).1 ∗ owns (c : Thread nD τ) scM0_1 fullShare (pairs V c n).2) ∗ (∃ r, prngReg c r)) := by
  cases n with
  | zero => exact absurd rfl hz
  | succ n => rfl

/-- The region's proof data: the arrays as entered; after a point each input's buffer at its block and the outputs' at the
    point's two output blocks; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => outW (weights V c t) (iblk0 V c 0 t) (iblk0 V c 1 t) (pairs V c t.val)
    | ⟨10, _⟩ => outE (weights V c t) (iblk0 V c 0 t) (iblk0 V c 1 t) (pairs V c t.val)
  Φ t := Phi V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi_castSucc (c : Dev nD) (t : Fin cfg0.N) : (dat0 V c).Φ t.castSucc = Phi V c t.val (Nat.le_of_lt t.isLt) := by
  dsimp only [dat0]; exact Pipeline.Dat.Φ_castSucc (Phi V c) t
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) :
    (dat0 V c).after 9 t = outW (weights V c t) (iblk0 V c 0 t) (iblk0 V c 1 t) (pairs V c t.val) := by dsimp only [dat0]
theorem after0_10 (c : Dev nD) (t : Fin cfg0.N) :
    (dat0 V c).after 10 t = outE (weights V c t) (iblk0 V c 0 t) (iblk0 V c 1 t) (pairs V c t.val) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at a point, and what it returns. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

/-- The pair carried into the point after `t`. -/
theorem pairs_succ (c : Dev nD) (t : Fin cfg0.N) :
    pairs V c (t.val + 1) = pairAt (weights V c t) (iblk0 V c 0 t) (iblk0 V c 1 t) (pairs V c t.val) 256 := by
  show pairAt (weights V c (pt t.val)) (iblk0 V c 0 (pt t.val)) (iblk0 V c 1 (pt t.val)) (pairs V c t.val) 256 = _
  rw [pt_val]
theorem pairs_first (c : Dev nD) (t : Fin cfg0.N) (hz : t.val = 0) :
    pairs V c t.val = (k0_pay1 (iblk0 V c 2 t), k0_pay2 (iblk0 V c 3 t)) := by
  have ht : t = pt 0 := by rw [← pt_val t, hz]
  subst ht
  rfl

set_option maxHeartbeats 4000000 in
/-- The body at any point: the first takes the scratch at anything, each later one at the carried pair. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9, after0_10]
  rw [show (dat0 V c).Φ t.succ = Phi V c (t.val + 1) t.isLt from rfl, Phi_pos V c _ _ (Nat.succ_ne_zero _), pairs_succ]
  have hN : t.val < 8 := lt_of_lt_of_eq t.isLt (show cfg0.N = 8 from N_0)
  by_cases hz : t.val = 0
  · rw [Phi_castSucc V c t, Phi_zero V c _ _ hz, PhiA0_eq, pairs_first V c t hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (first_point c (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) ((first_iff t).mpr (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Phi_castSucc V c t, Phi_pos V c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (later_point c (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (fun h => hz (by have := (first_iff t).mp h; omega)) (pairs V c t.val).1 (pairs V c t.val).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The invariant before the first point is what the launch hands over; after the last it gives that back. -/
theorem hin (c : Dev nD) : Pipeline.ΦA spec0 c ⊢ (dat0 V c).Φ 0 := by
  rw [show (dat0 V c).Φ 0 = Phi V c 0 (Nat.zero_le _) from rfl, Phi_zero V c 0 _ rfl]
  try exact Idealize.SL.BI.Entails.refl _
theorem hout (c : Dev nD) : (dat0 V c).Φ (Fin.last _) ⊢ Pipeline.ΦA spec0 c := by
  rw [show (dat0 V c).Φ (Fin.last _) = Phi V c cfg0.N (Nat.le_refl _) from rfl,
    Phi_pos V c _ _ (by rw [show cfg0.N = 8 from N_0]; decide), PhiA0_eq]
  iintro ⟨⟨HS0, HS1⟩, Hg⟩
  isplitl [HS0 HS1]
  · isplitl [HS0]
    · iexists _; iexact HS0
    iexists _; iexact HS1
  iexact Hg

end Cert.KernelIdeal.Region

end
-- ==== Proof.KernelIdeal.Launch.lean ====
/- The launch of the program: the host operations, the host loop over the 2048 positions, the kernel's region and the
   host operations after it, as one run from any memory. `final` is what every buffer then holds; the argument arrays are
   unchanged. -/
module

public import proofs.«01_k».proof.Proof.Gen.KernelIdeal.Launch
public import proofs.«01_k».proof.Proof.KernelIdeal.Region
public import Idealize.ShloMosaic.Lib.Pipeline.FrameBody
public import Idealize.ShloMosaic.Lib.Pipeline.RegionsLoop
public import Idealize.ShloMosaic.Lib.Pipeline.FrameSuffix
public import Idealize.ShloMosaic.Lib.StableHlo.RunLoop
public import Idealize.ShloMosaic.Lib.Scf.ExitTest
public import Idealize.ShloMosaic.Lib.Scf.Counter
public import Idealize.ShloMosaic.Lib.Ring
public import Idealize.ShloMosaic.Lib.Tactic
public import Idealize.ShloMosaic.Lib.WordCmp

@[expose] public section

set_option maxRecDepth 100000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Region

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operations' lists and what each writes -/

/-- The argument arrays. -/
abbrev argRefs : List (Ref sig .tc) := [main_arg0, main_arg1, main_arg2, main_arg3, main_arg4, main_arg5, main_arg6, main_arg7, main_arg8, main_arg9, main_arg10, main_arg11, main_arg12, main_arg13]

/-- The operations of the loop's condition: the bound 2048 and the comparison of the counter with it. -/
abbrev condOps : List (HloOp τ sig (Elt F)) :=
  [ StableHlo.nullary main_while0c_c_10 (constantI S_ 32 2048#32),
    StableHlo.binary main_v3_6 main_while0c_c_10 main_while0c_v22 (cmpi .slt : (⟨S_, .i32⟩ : BufTy).Contents (Elt F) → (⟨S_, .i32⟩ : BufTy).Contents (Elt F) → (⟨S_, .i1⟩ : BufTy).Contents (Elt F)) ]
/-- The stretches of the loop's body. -/
abbrev bodyI : List (List (HloOp τ sig (Elt F))) := [while0Ops0, while0Ops0_1, while0Ops0_2, while0Ops0_3, while0Ops0_4]

theorem hbodyI : StableHlo.Plain (bodyI (F := F)) :=
  .cons while0Ops0_sub (.cons while0Ops0_1_sub (.cons while0Ops0_2_sub (.cons while0Ops0_3_sub (.cons while0Ops0_4_sub .nil))))

theorem hostOps0_fresh : (hostOps0 : List (HloOp τ sig (Elt F))).Forall fun op => op.fresh = ∅ := by
  simp only [List.Forall]; repeat' constructor
/-- The references `hostOps0` writes, in order. -/
abbrev hostOps0_W : List (Ref sig .tc) := [main_v0, main_cst, main_cst_0, main_v1, main_cst_1, main_v2, main_c, main_v3_0, main_v3_1, main_v3_2, main_v3_3, main_v3_4, main_v3_5, main_v3_6, main_v3_7, main_v3_8]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
/-- The references `hostOps0_1` writes, in order. -/
abbrev hostOps0_1_W : List (Ref sig .tc) := [main_v4, main_v5, main_v6, main_v7, main_v8, main_v9, main_v10, main_v11, main_v12, main_v13, main_v14, main_v15, main_v16]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps1_fresh : (hostOps1 : List (HloOp τ sig (Elt F))).Forall fun op => op.fresh = ∅ := by
  simp only [List.Forall]; repeat' constructor
/-- The references `hostOps1` writes, in order. -/
abbrev hostOps1_W : List (Ref sig .tc) := [main_v18, main_v19, main_v20, main_v21]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

/-- The references `while0Ops0` writes, in order. -/
abbrev while0Ops0_W : List (Ref sig .tc) := [main_while0b_call0_c, main_while0b_call0_c_0, main_while0b_call0_v0, main_while0b_v22]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_args : ∀ a ∈ argRefs, a ∉ while0Ops0_W := ListAll.forall_mem_of_all_decide (by decide +kernel)

/-- The references `while0Ops0_1` writes, in order. -/
abbrev while0Ops0_1_W : List (Ref sig .tc) := [main_while0b_v23, main_while0b_cst_10, main_while0b_v24, main_while0b_v25, main_while0b_v26, main_while0b_v27, main_while0b_v28, main_while0b_v29, main_while0b_v30, main_while0b_v31, main_while0b_v32, main_while0b_v33, main_while0b_v34, main_while0b_v35]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_1_args : ∀ a ∈ argRefs, a ∉ while0Ops0_1_W := ListAll.forall_mem_of_all_decide (by decide +kernel)

/-- The references `while0Ops0_2` writes, in order. -/
abbrev while0Ops0_2_W : List (Ref sig .tc) := [main_while0b_call1_v0, main_while0b_call1_c, main_while0b_call1_c_0, main_while0b_v36]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_2_args : ∀ a ∈ argRefs, a ∉ while0Ops0_2_W := ListAll.forall_mem_of_all_decide (by decide +kernel)

/-- The references `while0Ops0_3` writes, in order. -/
abbrev while0Ops0_3_W : List (Ref sig .tc) := [main_while0b_call2_v0, main_while0b_call2_c, main_while0b_call2_c_0, main_while0b_v37]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_3_args : ∀ a ∈ argRefs, a ∉ while0Ops0_3_W := ListAll.forall_mem_of_all_decide (by decide +kernel)

/-- The references `while0Ops0_4` writes, in order. -/
abbrev while0Ops0_4_W : List (Ref sig .tc) := [main_while0b_c_11, main_while0b_v38, main_v3_6, main_v3_7, main_v3_8]
theorem while0Ops0_4_writes : (while0Ops0_4 : List (HloOp τ sig (Elt F))).Forall fun op => op.writes ⊆ (while0Ops0_4_W.map (Proc.devRef (τ := τ) .tc)).toFinset :=
  StableHlo.forall_writes_sub_of_map rfl
theorem while0Ops0_4_args : ∀ a ∈ argRefs, a ∉ while0Ops0_4_W := ListAll.forall_mem_of_all_decide (by decide +kernel)

/-- The references `condOps` writes, in order. -/
abbrev condOps_W : List (Ref sig .tc) := [main_while0c_c_10, main_while0c_v22]
theorem condOps_writes : (condOps : List (HloOp τ sig (Elt F))).Forall fun op => op.writes ⊆ (condOps_W.map (Proc.devRef (τ := τ) .tc)).toFinset :=
  StableHlo.forall_writes_sub_of_map rfl
theorem condOps_args : ∀ a ∈ argRefs, a ∉ condOps_W := ListAll.forall_mem_of_all_decide (by decide +kernel)

/-! ## Every buffer's contents between the items of the program -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- At the loop's entry. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The number of trips. -/
abbrev nT : ℕ := 2048
/-- Before the `k`-th evaluation of the condition, counted from 0. -/
abbrev Wk (k : ℕ) (c : Dev nD) : Valuation τ sig (Elt F) := StableHlo.atTrip condOps bodyI (W1 m ρ) k c
/-- At the loop's exit. -/
abbrev W2 : Dev nD → Valuation τ sig (Elt F) := fun c => StableHlo.after condOps (StableHlo.atTrip condOps bodyI (W1 m ρ) nT c)
/-- A reference no operation of the loop writes. -/
abbrev Kept (a : Ref sig .tc) : Prop := a ∉ while0Ops0_W ∧ a ∉ while0Ops0_1_W ∧ a ∉ while0Ops0_2_W ∧ a ∉ while0Ops0_3_W ∧ a ∉ while0Ops0_4_W ∧ a ∉ condOps_W
/-- What no operation of the loop writes stays across any number of trips. -/
theorem Wk_kept (c : Dev nD) (a : Ref sig .tc) (ha : Kept a) : ∀ k, Wk m ρ k c (Proc.devRef .tc a) = W1 m ρ c (Proc.devRef .tc a)
  | 0 => rfl
  | k + 1 => by
    obtain ⟨h0, h1, h2, h3, h4, hc⟩ := ha
    rw [show Wk m ρ (k + 1) c = StableHlo.afterL bodyI (StableHlo.after condOps (Wk m ρ k c)) from rfl]
    simp only [StableHlo.afterL_cons, StableHlo.afterL_nil]
    rw [StableHlo.after_of_writes_sub while0Ops0_4 _ while0Ops0_4_writes h4, StableHlo.after_of_writes_sub while0Ops0_3 _ while0Ops0_3_writes h3, StableHlo.after_of_writes_sub while0Ops0_2 _ while0Ops0_2_writes h2, StableHlo.after_of_writes_sub while0Ops0_1 _ while0Ops0_1_writes h1, StableHlo.after_of_writes_sub while0Ops0 _ while0Ops0_writes h0, StableHlo.after_of_writes_sub condOps _ condOps_writes hc]
    exact Wk_kept c a ⟨h0, h1, h2, h3, h4, hc⟩ k
theorem args_kept : ∀ a ∈ argRefs, Kept a := fun a ha =>
  ⟨while0Ops0_args a ha, while0Ops0_1_args a ha, while0Ops0_2_args a ha, while0Ops0_3_args a ha, while0Ops0_4_args a ha, condOps_args a ha⟩
theorem W2_of (c : Dev nD) (r : Ref sig .tc) (h : r ∉ condOps_W) : W2 m ρ c (Proc.devRef .tc r) = Wk m ρ nT c (Proc.devRef .tc r) :=
  StableHlo.after_of_writes_sub condOps _ condOps_writes h
theorem W2_kept (c : Dev nD) (a : Ref sig .tc) (ha : Kept a) : W2 m ρ c (Proc.devRef .tc a) = W1 m ρ c (Proc.devRef .tc a) :=
  (W2_of m ρ c a ha.2.2.2.2.2).trans (Wk_kept m ρ c a ha nT)
/-- At the region's entry. -/
abbrev W3 : Dev nD → Valuation τ sig (Elt F) := fun c => StableHlo.after hostOps0_1 (W2 m ρ c)
theorem W3_of (c : Dev nD) (r : Ref sig .tc) (h : r ∉ hostOps0_1_W) : W3 m ρ c (Proc.devRef .tc r) = W2 m ρ c (Proc.devRef .tc r) :=
  StableHlo.after_of_writes_sub hostOps0_1 _ hostOps0_1_writes h
theorem W3_args (c : Dev nD) : ∀ a ∈ argRefs, W3 m ρ c (Proc.devRef .tc a) = m ((c : Thread nD τ).loc a) :=
  fun a ha => (W3_of m ρ c a (hostOps0_1_args a ha)).trans ((W2_kept m ρ c a (args_kept a ha)).trans
    ((W1_of m ρ c a (hostOps0_args a ha)).trans (W0_args m ρ c a ha)))
/-- The region's entry contents at the core's references. -/
abbrev V3 : (c : Dev nD) → (b : Ref sig .tc) → Buf (Elt F) ((c : Thread nD τ).loc b) := fun c b => W3 m ρ c b
/-- At the region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of the region's output arrays keeps its contents across it. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
theorem argsIn : ∀ a ∈ argRefs, ∀ w : Fin cfg0.W, Pipeline.arrRef spec0 w = a → (cfg0.win w).isOut = false :=
  ListAll.forall_mem_of_all_decide (by decide +kernel)
abbrev V4 : (c : Dev nD) → (b : Ref sig .tc) → Buf (Elt F) ((c : Thread nD τ).loc b) := fun c b => W4 m ρ c b
theorem exit_arrays (c : Dev nD) (w : Fin cfg0.W) : (dat0 (V3 m ρ) c).arrAt w cfg0.N = V4 m ρ c (Pipeline.arrRef spec0 w) :=
  (W4_arr m ρ c w).symm
theorem exit_rest (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- At the program's end. -/
abbrev final : Dev nD → Valuation τ sig (Elt F) := fun c => StableHlo.after hostOps1 (W4 m ρ c)
theorem final_of (c : Dev nD) (r : Ref sig .tc) (h : r ∉ hostOps1_W) : final m ρ c (Proc.devRef .tc r) = W4 m ρ c (Proc.devRef .tc r) :=
  StableHlo.after_of_writes_sub hostOps1 _ hostOps1_writes h
/-- The argument arrays hold at the end what they held at launch. -/
theorem final_args (c : Dev nD) : ∀ a ∈ argRefs, final m ρ c (Proc.devRef .tc a) = m ((c : Thread nD τ).loc a) :=
  fun a ha => (final_of m ρ c a (hostOps1_args a ha)).trans ((W4_of m ρ c a (argsIn a ha)).trans (W3_args m ρ c a ha))
/-! ## The proof data family and the thread state -/

/-- The prefetched tables' admissible contents: no pipeline has a table. -/
abbrev adm : (p : Fin 1) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 1) → (c : Dev nD) → Dat τ (Elt F) Unit ℕ (UR sig nD τ) ℕ (Pipeline.pin (pcfgs (F := F)) adm p) c
  | ⟨0, _⟩ => fun c => dat0 (V3 m ρ) c
/-- The ONE ticket the loop kit funds the region's entry with: its pipeline, the proof data, and the certificate's own
    copy of the pipeline library's algebra (Lib/Pipeline/RegionsLoop.lean `Ticket`). -/
abbrev tk (_ : Fin 1) : Pipeline.Ticket (Ix := Unit) (Name := ℕ) (U := UR sig nD τ) (Lvl := ℕ) (nD := nD) (τ := τ) (pcfgs (F := F)) adm :=
  ⟨0, pdats m ρ, emb₁⟩
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `CSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.CSeg (pcfgs (F := F)) adm defs₀ 𝒱₀ L lv loops (tk m ρ) :=
  Pipeline.CSeg.ofOps _ _ _ _ _ _ _ _ (Pipeline.ucRefs τ sig) ops
    (fun op h => Pipeline.sub_ucRefs op ((List.forall_iff_forall_mem.mp hsub) op h))
    (fun op h => (List.forall_iff_forall_mem.mp hfresh) op h) W R
@[simp] theorem hseg_T (ops : List (HloOp τ sig (Elt F))) (hsub hfresh) (W : Dev nD → Valuation τ sig (Elt F)) :
    (hseg m ρ ops hsub hfresh W).T = ∅ := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `final`, the generator register at some state. -/
abbrev Tₙ (c : Dev nD) : sProp 𝕄 := iprop(StableHlo.held (c : Thread nD τ) (Pipeline.ucRefs τ sig) (final m ρ c) ∗ ∃ r, prngReg c r)

/-! ## Host loop 0's trip counter, and its condition's specification -/
section
open Idealize.ShloMosaic.StableHlo
open Idealize.ShloMosaic.Pipeline (ucRefs sub_ucRefs)
/-- The trip counter (`main_v3_6`) is written by one stretch of the body, `while0Ops0_4`: not by the condition, nor by the
    body's other stretches. -/
theorem ctr_cond (V : Valuation τ sig (Elt F)) : after condOps V (Proc.devRef .tc main_v3_6) = V (Proc.devRef .tc main_v3_6) :=
  after_of_writes_sub condOps V condOps_writes (by decide +kernel)
theorem ctr_while0Ops0 (V : Valuation τ sig (Elt F)) : after while0Ops0 V (Proc.devRef .tc main_v3_6) = V (Proc.devRef .tc main_v3_6) :=
  after_of_writes_sub while0Ops0 V while0Ops0_writes (by decide +kernel)
theorem ctr_while0Ops0_1 (V : Valuation τ sig (Elt F)) : after while0Ops0_1 V (Proc.devRef .tc main_v3_6) = V (Proc.devRef .tc main_v3_6) :=
  after_of_writes_sub while0Ops0_1 V while0Ops0_1_writes (by decide +kernel)
theorem ctr_while0Ops0_3 (V : Valuation τ sig (Elt F)) : after while0Ops0_3 V (Proc.devRef .tc main_v3_6) = V (Proc.devRef .tc main_v3_6) :=
  after_of_writes_sub while0Ops0_3 V while0Ops0_3_writes (by decide +kernel)
theorem ctr_while0Ops0_2 (V : Valuation τ sig (Elt F)) : after while0Ops0_2 V (Proc.devRef .tc main_v3_6) = V (Proc.devRef .tc main_v3_6) :=
  after_of_writes_sub while0Ops0_2 V while0Ops0_2_writes (by decide +kernel)

set_option maxRecDepth 100000 in
/-- `while0Ops0_4` leaves the counter one step on. -/
theorem ctr_step (X : Valuation τ sig (Elt F)) :
    after while0Ops0_4 X (Proc.devRef .tc main_v3_6) = addi (X (Proc.devRef .tc main_v3_6)) (constantI S_ 32 1#32) := by
  after_results
  rfl

set_option maxRecDepth 100000 in
/-- The counter is the loop's lower bound at the loop's entry. -/
theorem ctr_entry (c : Dev nD) : W1 m ρ c (Proc.devRef .tc main_v3_6) = fun _ => (0#32 : BitVec 32) := by
  simp only [W1, afterL_cons, afterL_nil]
  after_results
  rfl

/-- Before the `k`-th condition the counter is the loop's induction variable at `k`. -/
theorem atK_ctr (c : Dev nD) : ∀ k, Wk m ρ k c (Proc.devRef .tc main_v3_6) = fun _ => Scf.iv 0#32 1#32 k
  | 0 => by rw [show Wk m ρ 0 c = W1 m ρ c from rfl, ctr_entry, Scf.iv_zero]
  | k + 1 => by
    rw [show Wk m ρ (k + 1) c = afterL bodyI (after condOps (Wk m ρ k c)) from rfl]
    simp only [afterL_cons, afterL_nil]
    rw [ctr_step, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : LoopCond (pcfgs (F := F)) defs₀ 𝒱₀ loops R (main_while0_cond (F := F)) condOps bodyI (W1 m ρ) nT := by
  intro k hk c bd
  have hctr := atK_ctr m ρ c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m ρ k c) main_v3_6 HostLoop.idx0)
        (HloOp.result _ (Wk m ρ k c) main_while0c_c_10 HostLoop.idx0) = 1#1) (k < nT)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR
end

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := hin (V3 m ρ) c
    iintro ⟨Hp, -, Hr⟩
    iapply h
    unfold Pipeline.ΦA
    isplitl [Hr]; · iexact Hr
    iexact Hp
  hout c := by
    have h : (pdats m ρ 0 c).Φ (Fin.last _) ⊢ Pipeline.ΦA spec0 c := hout (V3 m ρ) c
    rw [Pipeline.ownSems0_none]
    iintro H
    ihave H2 := h $$ H
    unfold Pipeline.ΦA
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (exit_arrays m ρ c) (exit_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 0 as the loop kit's segment: `reg0` at the ticket. -/
abbrev cseg0 : Pipeline.CSeg (pcfgs (F := F)) adm defs₀ 𝒱₀ L lv loops (tk m ρ) :=
  Pipeline.CSeg.region _ _ () cellOf_inj _ _ _ _ _ _ (0 : Fin 1) (reg0 m ρ)
@[simp] theorem cseg0_T : (cseg0 m ρ).T = {(0 : Fin 1)} := rfl

/-! ## Host loop 0 as one segment, @main as segments, and the launch -/

/-- Host loop 0: from every unscoped buffer at `W1` it runs its `nT` trips and leaves them at `Wexit`, `R` riding
    along, consuming no ticket (Lib/StableHlo/RunLoop.lean `loopSeg`; its body IS the body's stretches by the launch
    module's `while0_body_chain`). -/
abbrev loop0 : Pipeline.CSeg (pcfgs (F := F)) adm defs₀ 𝒱₀ L lv loops (tk m ρ) :=
  StableHlo.loopSeg _ _ _ _ _ _ _ _ 0 (main_while0_cond (F := F)) (main_while0_body (F := F)) rfl condOps bodyI hbodyI
    (by rw [while0_body_chain]; rfl) nT (W1 m ρ) R (cond_spec m ρ)
@[simp] theorem loop0_T : (loop0 m ρ).T = ∅ := StableHlo.loopSeg_T _ _ _ _ _ _ _ _ _

/-- The program's segments in order. -/
abbrev segs : List (Pipeline.CSeg (pcfgs (F := F)) adm defs₀ 𝒱₀ L lv loops (tk m ρ)) :=
  [ hseg m ρ hostOps0 hostOps0_sub hostOps0_fresh (W0 m ρ),
    loop0 m ρ,
    hseg m ρ hostOps0_1 hostOps0_1_sub hostOps0_1_fresh (W2 m ρ),
    cseg0 m ρ,
    hseg m ρ hostOps1 hostOps1_sub hostOps1_fresh (W4 m ρ) ]
/-- @main IS the run of the segments: `Gen.main_chain`, then the segments' run against that chain by the kernel's
    definitional check (`chain_rfl`). -/
theorem main_run (c : Dev nD) : main (F := F) c = Pipeline.CSeg.runL (segs m ρ) := (main_chain c).trans (by chain_rfl)
/-- The segments' tickets are pairwise disjoint: the region's one, none elsewhere. -/
theorem segs_disjoint : (segs m ρ).Pairwise fun s s' => Disjoint s.T s'.T := by
  simp only [segs, List.pairwise_cons, List.Pairwise.nil, List.mem_cons, List.mem_nil_iff, forall_eq_or_imp, forall_eq,
    or_false, and_true, hseg_T, cseg0_T, loop0_T, Finset.disjoint_empty_left, Finset.disjoint_empty_right, implies_true, true_and]
  all_goals first | trivial | decide

/-- The TensorCore has no unscoped semaphore. -/
theorem no_unscoped : ∀ sm : SemLoc sig, sm.isScoped .tc = true := by decide

-- the kit's implicit arguments are found by unifying its conclusion with this one, which takes unfolding plain definitions
-- in a metavariable's type
set_option backward.isDefEq.respectTransparency.types false in
/-- THE RUN: at the compiled mesh, from any memory with zero counters, every weakly fair execution of @main on the
    TensorCores terminates — the loop included —, nothing faulting, and every final state has every unscoped buffer at
    `final` and every semaphore counter at zero (the kit shows all but the TensorCores' unscoped ones, of which there are none):
    the kit's launch over the segments, the last thread state read against the final state (`pointsTo_read_all`). -/
theorem run_main_quiescent : θ_run defs (onTc (τ := τ) (main (F := F))) ⟨m, fun _ => 0, ρ⟩
    (fun r => (∀ (c : Dev nD), ∀ b ∈ Pipeline.ucRefs τ sig, r.2.mem (((c : Thread nD τ)).1, b) = final m ρ c b) ∧ r.2.sem = fun _ => 0) :=
  Pipeline.θ_run_regions_loop_kit_sems (pcfgs (F := F)) adm cellOf_inj defs₀ 𝒱₀ L lv loops (tk m ρ) m ρ main (segs m ρ)
    (fun c Q => by rw [main_run m ρ c]) (segs_disjoint m ρ)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · rw [Finset.univ_unique, BI.bigSep_singleton]
        iapply (show (ownU (initOf (Pipeline.cells cfgs cellOf_inj) (Pipeline.launchToks cfgs cellOf_inj)) : sProp 𝕄) ⊢ BI.own ((tk m ρ default).EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (StableHlo.after hostOps1 (W4 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = final m ρ c b)
    (hfin := fun c s' => by
      iintro ⟨⟨Hh, -⟩, HSI⟩
      unfold StableHlo.held
      imodintro
      iapply (pointsTo_read_all (Pipeline.ucRefs τ sig) (fun b => (((c : Thread nD τ)).1, b)) (final m ρ c) s')
      isplitl [Hh] <;> iassumption)
    (hQ := fun _ h hz => ⟨h, funext fun g => hz g (.inr (no_unscoped g.2))⟩)

/-- The program runs to an end from any memory, leaves the argument arrays as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ ⟨h, hz⟩ => ⟨fun c =>
      ⟨(h c _ (mem_uc main_arg0 (by decide))).trans (final_args m ρ c main_arg0 (by decide)),
       (h c _ (mem_uc main_arg1 (by decide))).trans (final_args m ρ c main_arg1 (by decide)),
       (h c _ (mem_uc main_arg2 (by decide))).trans (final_args m ρ c main_arg2 (by decide)),
       (h c _ (mem_uc main_arg3 (by decide))).trans (final_args m ρ c main_arg3 (by decide)),
       (h c _ (mem_uc main_arg4 (by decide))).trans (final_args m ρ c main_arg4 (by decide)),
       (h c _ (mem_uc main_arg5 (by decide))).trans (final_args m ρ c main_arg5 (by decide)),
       (h c _ (mem_uc main_arg6 (by decide))).trans (final_args m ρ c main_arg6 (by decide)),
       (h c _ (mem_uc main_arg7 (by decide))).trans (final_args m ρ c main_arg7 (by decide)),
       (h c _ (mem_uc main_arg8 (by decide))).trans (final_args m ρ c main_arg8 (by decide)),
       (h c _ (mem_uc main_arg9 (by decide))).trans (final_args m ρ c main_arg9 (by decide)),
       (h c _ (mem_uc main_arg10 (by decide))).trans (final_args m ρ c main_arg10 (by decide)),
       (h c _ (mem_uc main_arg11 (by decide))).trans (final_args m ρ c main_arg11 (by decide)),
       (h c _ (mem_uc main_arg12 (by decide))).trans (final_args m ρ c main_arg12 (by decide)),
       (h c _ (mem_uc main_arg13 (by decide))).trans (final_args m ρ c main_arg13 (by decide))⟩, hz⟩) (run_main_quiescent m ρ)

end Cert.KernelIdeal.Run

end
-- ==== Proof.Kernel.Frame.lean ====
/- The kernel as printed and the kernel as printed for reading at the ideal instance are one program, so what holds of every run of
   the second, at any reading of the floats, holds of the first. -/
module

public import proofs.«01_k».proof.Defs
public import proofs.«01_k».proof.Proof.Gen.Kernel
public import proofs.«01_k».proof.Proof.KernelIdeal.Launch

@[expose] public section

set_option maxRecDepth 65536
set_option maxHeartbeats 4000000

noncomputable section

namespace Cert.Kernel.Run

open Idealize.ShloMosaic Idealize.SL.Sem Cert.Kernel Cert.Kernel.Gen

variable {F : FTy → Type} [FloatOps F]

/-- The label's body is the kernel's function at the point's coordinates, the same in both. -/
theorem defs₀_eq : defs₀ (F := F) = Cert.KernelIdeal.defs₀ (F := F) := by
  unfold defs₀ Cert.KernelIdeal.defs₀
  refine congrArg Defs.onTc (funext fun l => funext fun a => ?_)
  match l, a with
  | 0, _ => rfl

/-- The tables of the two programs are the same. -/
theorem defs_eq : defs (F := F) = Cert.KernelIdeal.defs (F := F) :=
  congrArg (fun d => Idealize.ShloMosaic.HostLoop.defs loops (Pipeline.defs pcfgs d)) defs₀_eq

variable (m : (ℓ : Loc nD τ sig) → Buf (Elt F) ℓ) (ρ : Dev nD → PrngReg)

/-- The program runs to an end from any memory, leaves the argument arrays as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  rw [defs_eq]
  exact Cert.KernelIdeal.Run.frame m ρ

end Cert.Kernel.Run

end
-- ==== Proof.Reference.Frame.lean ====
/- The reference program terminates, leaves its arguments as they were and every semaphore at zero: it declares none. -/
module

public import proofs.«01_k».proof.Proof.Gen.ReferenceIdeal.Run

@[expose] public section

noncomputable section

namespace Cert.ReferenceIdeal.Frame

open Idealize.ShloMosaic Idealize.ShloMosaic.TcCoe Idealize.SL.Sem
open Cert.ReferenceIdeal

variable {F : FTy → Type} [FloatOps F]

/-- The program has no semaphore. -/
theorem no_sem (g : GSem nD τ sig) : False := by
  obtain ⟨_, sm⟩ := g
  revert sm
  decide

/-- The reference's run, its arguments unchanged and its counters (none) at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => (h c).2.2, funext fun g => (no_sem g).elim⟩) (Cert.ReferenceIdeal.Value.run m ρ)

end Cert.ReferenceIdeal.Frame

end
-- ==== Proof.Rows.lean ====
/- A row of an array read, and a row of it replaced, at a row number that is in range: nothing is clamped. -/
module

public import Idealize.ShloMosaic.Lib.Pointwise
public import Idealize.ShloMosaic.Lib.DynamicIndex

@[expose] public section

noncomputable section

namespace Cert.Rows

open Idealize.ShloMosaic

variable {α : Type}

/-- The shapes of the arrays and of a row of each. -/
abbrev A1 (w : ℕ) : Shape := ⟨3, ![2048, 1, w]⟩
abbrev B1 (w : ℕ) : Shape := ⟨3, ![1, 1, w]⟩
abbrev A2 (w : ℕ) : Shape := ⟨2, ![2048, w]⟩
abbrev B2 (w : ℕ) : Shape := ⟨2, ![1, w]⟩
abbrev A3 (w : ℕ) : Shape := ⟨3, ![2048, 2, w]⟩
abbrev B3 (w : ℕ) : Shape := ⟨3, ![1, 2, w]⟩

theorem slice3 {w : ℕ} (x : Shape.Idx (A1 w) → α) (start : Fin 3 → Int)
    (h : Shape.Slices (A1 w) (fun _ => 0) (B1 w)) (n : ℕ) (hn : n < 2048)
    (h0 : start 0 = n) (h1 : start 1 = 0) (h2 : start 2 = 0) (d : Fin w) :
    Host.dynamicSlice (B1 w) x start h (ix3 0 0 d) = x (ix3 ⟨n, hn⟩ 0 d) := by
  rw [Host.dynamicSlice_apply]
  have c0 := Host.clampedStart_of_le (s := (A1 w)) (t := (B1 w)) h.1 start 0 n h0 (by show n + 1 ≤ 2048; omega)
  have c1 := Host.clampedStart_of_le (s := (A1 w)) (t := (B1 w)) h.1 start 1 0 h1 (by show 0 + 1 ≤ 1; omega)
  have c2 := Host.clampedStart_of_le (s := (A1 w)) (t := (B1 w)) h.1 start 2 0 h2 (by show 0 + w ≤ w; omega)
  refine congrArg x (funext fun a => Fin.ext ?_)
  rw [Shape.Idx.norm_def]
  fin_cases a
  · show Host.clampedStart (A1 w) (B1 w) h.1 start 0 + 0 = n
    rw [c0]; rfl
  · show Host.clampedStart (A1 w) (B1 w) h.1 start 1 + 0 = 0
    rw [c1]
  · show Host.clampedStart (A1 w) (B1 w) h.1 start 2 + d.val = d.val
    rw [c2, Nat.zero_add]

theorem update2 {w : ℕ} (x : Shape.Idx (A2 w) → α) (u : Shape.Idx (B2 w) → α) (start : Fin 2 → Int)
    (h : Shape.Slices (A2 w) (fun _ => 0) (B2 w)) (n : ℕ) (hn : n < 2048)
    (h0 : start 0 = n) (h1 : start 1 = 0) (r : Fin 2048) (j : Fin w) :
    Host.dynamicUpdateSlice x u start h (ix2 r j) = if r.val = n then u (ix2 0 j) else x (ix2 r j) := by
  rw [Host.dynamicUpdateSlice_apply]
  have c0 := Host.clampedStart_of_le (s := (A2 w)) (t := (B2 w)) h.1 start 0 n h0 (by show n + 1 ≤ 2048; omega)
  have c1 := Host.clampedStart_of_le (s := (A2 w)) (t := (B2 w)) h.1 start 1 0 h1 (by show 0 + w ≤ w; omega)
  have hj := j.isLt
  by_cases hr : r.val = n
  · rw [if_pos hr, dif_pos]
    · refine congrArg u (funext fun a => Fin.ext ?_)
      rw [Shape.Idx.norm_def]
      fin_cases a
      · show r.val - Host.clampedStart (A2 w) (B2 w) h.1 start 0 = 0
        rw [c0]; omega
      · show j.val - Host.clampedStart (A2 w) (B2 w) h.1 start 1 = j.val
        rw [c1]; omega
    · intro a
      fin_cases a
      · show Host.clampedStart (A2 w) (B2 w) h.1 start 0 ≤ r.val ∧ r.val < Host.clampedStart (A2 w) (B2 w) h.1 start 0 + 1
        rw [c0]; omega
      · show Host.clampedStart (A2 w) (B2 w) h.1 start 1 ≤ j.val ∧ j.val < Host.clampedStart (A2 w) (B2 w) h.1 start 1 + w
        rw [c1]; omega
  · rw [if_neg hr, dif_neg]
    intro hall
    have := hall 0
    change Host.clampedStart (A2 w) (B2 w) h.1 start 0 ≤ r.val ∧ r.val < Host.clampedStart (A2 w) (B2 w) h.1 start 0 + 1 at this
    rw [c0] at this
    omega

theorem update3 {w : ℕ} (x : Shape.Idx (A3 w) → α) (u : Shape.Idx (B3 w) → α) (start : Fin 3 → Int)
    (h : Shape.Slices (A3 w) (fun _ => 0) (B3 w)) (n : ℕ) (hn : n < 2048)
    (h0 : start 0 = n) (h1 : start 1 = 0) (h2 : start 2 = 0) (r : Fin 2048) (i : Fin 2) (j : Fin w) :
    Host.dynamicUpdateSlice x u start h (ix3 r i j) = if r.val = n then u (ix3 0 i j) else x (ix3 r i j) := by
  rw [Host.dynamicUpdateSlice_apply]
  have c0 := Host.clampedStart_of_le (s := (A3 w)) (t := (B3 w)) h.1 start 0 n h0 (by show n + 1 ≤ 2048; omega)
  have c1 := Host.clampedStart_of_le (s := (A3 w)) (t := (B3 w)) h.1 start 1 0 h1 (by show 0 + 2 ≤ 2; omega)
  have c2 := Host.clampedStart_of_le (s := (A3 w)) (t := (B3 w)) h.1 start 2 0 h2 (by show 0 + w ≤ w; omega)
  have hj := j.isLt
  by_cases hr : r.val = n
  · rw [if_pos hr, dif_pos]
    · refine congrArg u (funext fun a => Fin.ext ?_)
      rw [Shape.Idx.norm_def]
      fin_cases a
      · show r.val - Host.clampedStart (A3 w) (B3 w) h.1 start 0 = 0
        rw [c0]; omega
      · show i.val - Host.clampedStart (A3 w) (B3 w) h.1 start 1 = i.val
        rw [c1]; omega
      · show j.val - Host.clampedStart (A3 w) (B3 w) h.1 start 2 = j.val
        rw [c2]; omega
    · intro a
      fin_cases a
      · show Host.clampedStart (A3 w) (B3 w) h.1 start 0 ≤ r.val ∧ r.val < Host.clampedStart (A3 w) (B3 w) h.1 start 0 + 1
        rw [c0]; omega
      · show Host.clampedStart (A3 w) (B3 w) h.1 start 1 ≤ i.val ∧ i.val < Host.clampedStart (A3 w) (B3 w) h.1 start 1 + 2
        rw [c1]; omega
      · show Host.clampedStart (A3 w) (B3 w) h.1 start 2 ≤ j.val ∧ j.val < Host.clampedStart (A3 w) (B3 w) h.1 start 2 + w
        rw [c2]; omega
  · rw [if_neg hr, dif_neg]
    intro hall
    have := hall 0
    change Host.clampedStart (A3 w) (B3 w) h.1 start 0 ≤ r.val ∧ r.val < Host.clampedStart (A3 w) (B3 w) h.1 start 0 + 1 at this
    rw [c0] at this
    omega

end Cert.Rows

end
-- ==== Proof.KernelIdeal.Host.lean ====
/- What the operations around the region compute: the loop before it projects each row of the input to the step's keys and
   values, the weights are laid out side by side, and the operations after it keep the two columns in use. -/
module

public import proofs.«01_k».proof.Proof.KernelIdeal.Launch
public import proofs.«01_k».proof.Proof.Rows
public import Idealize.ShloMosaic.Lib.Pointwise
public import Idealize.ShloMosaic.Lib.StableHlo.RunRead

@[expose] public section

set_option maxRecDepth 100000

noncomputable section

namespace Cert.KernelIdeal.Run

open Idealize.ShloMosaic Idealize.ShloMosaic.TcCoe Idealize.ShloMosaic.StableHlo
open Idealize.SL.Sem
open Cert.KernelIdeal Cert.KernelIdeal.Gen

variable {F : FTy → Type} [FloatOps F]

/-- A row of the input, at the loop's counter. -/
def rowAt (x : FVec F S2048x1x1024 .f32) (i : IVec S_ 32) : FVec F S1x1024 .f32 :=
  shapeCast S1x1024 (Host.dynamicSlice S1x1x1024 x (fun k => (((![i, constantI S_ 32 0#32, constantI S_ 32 0#32] : Fin 3 → IVec S_ 32)) k (Shape.Idx.first h_S_)).toInt) sliceFits_S2048x1x1024_S1x1x1024) shapeCasts_S1x1x1024_S1x1024

theorem read_row (X : Valuation τ sig (Elt F)) :
    after while0Ops0 X (Proc.devRef .tc main_while0b_v22) = rowAt (X (Proc.devRef .tc main_v3_0)) (X (Proc.devRef .tc main_v3_6)) := by
  after_results_simp
  unfold rowAt
  refine congrArg (fun g => shapeCast S1x1024 (Host.dynamicSlice S1x1x1024 (X (Proc.devRef .tc main_v3_0)) g sliceFits_S2048x1x1024_S1x1x1024) shapeCasts_S1x1x1024_S1x1024) (funext fun k => ?_)
  fin_cases k
  · refine congrArg (fun v : IVec S_ 32 => BitVec.toInt (v (Shape.Idx.first h_S_))) (a₁ := _) (a₂ := X (Proc.devRef .tc main_v3_6)) ?_
    show HloOp.result _ (HloOp.result _ X) (Proc.devRef .tc main_v3_6) = _
    after_results_simp
  · refine congrArg (fun v : IVec S_ 32 => BitVec.toInt (v (Shape.Idx.first h_S_))) (a₁ := _) (a₂ := constantI S_ 32 0#32) ?_
    show HloOp.result _ (HloOp.result _ X) (Proc.devRef .tc main_while0b_call0_c) = _
    after_results_simp
    rfl
  · refine congrArg (fun v : IVec S_ 32 => BitVec.toInt (v (Shape.Idx.first h_S_))) (a₁ := _) (a₂ := constantI S_ 32 0#32) ?_
    show HloOp.result _ (HloOp.result _ X) (Proc.devRef .tc main_while0b_call0_c_0) = _
    after_results_simp
    rfl

/-- The row and a row of zeros, and their keys and values. -/
def both (r : FVec F S1x1024 .f32) : FVec F S1x2x1024 .f32 :=
  concatenate S1x2x1024 1 [⟨S1x1x1024, broadcastInDim S1x1x1024 ![0, 2] bcast_S1x1024_S1x1x1024_0_2 r⟩,
    ⟨S1x1x1024, broadcastInDim S1x1x1024 ![] bcast_S_S1x1x1024 (constant S_ .f32 0x00000000#32)⟩] concatenates_S1x1x1024_S1x1x1024_S1x2x1024_d1
def keys (r : FVec F S1x1024 .f32) (w : FVec F S1024x64 .f32) (b : FVec F S64 .f32) : FVec F S2x64 .f32 :=
  shapeCast S2x64 (addf (Host.dotGeneral dot_S1x2x1024_S1024x64_S1x2x64_2_0_01_1_n_n none (both r) w)
    (broadcastInDim S1x2x64 ![0, 1, 2] bcast_S1x1x64_S1x2x64_0_1_2 (broadcastInDim S1x1x64 ![2] bcast_S64_S1x1x64_2 b))) shapeCasts_S1x2x64_S2x64
def values (r : FVec F S1x1024 .f32) (w : FVec F S1024x400 .f32) (b : FVec F S400 .f32) : FVec F S2x400 .f32 :=
  shapeCast S2x400 (addf (Host.dotGeneral dot_S1x2x1024_S1024x400_S1x2x400_2_0_01_1_n_n none (both r) w)
    (broadcastInDim S1x2x400 ![0, 1, 2] bcast_S1x1x400_S1x2x400_0_1_2 (broadcastInDim S1x1x400 ![2] bcast_S400_S1x1x400_2 b))) shapeCasts_S1x2x400_S2x400

theorem read_keys (X : Valuation τ sig (Elt F)) :
    after while0Ops0_1 X (Proc.devRef .tc main_while0b_v34) = keys (X (Proc.devRef .tc main_while0b_v22)) (X (Proc.devRef .tc main_v3_2)) (X (Proc.devRef .tc main_v3_3)) := by
  after_results
  rfl
theorem read_values (X : Valuation τ sig (Elt F)) :
    after while0Ops0_1 X (Proc.devRef .tc main_while0b_v35) = values (X (Proc.devRef .tc main_while0b_v22)) (X (Proc.devRef .tc main_v3_4)) (X (Proc.devRef .tc main_v3_5)) := by
  after_results
  rfl

/-- The keys' and the values' array with one row replaced. -/
def putKeys (x : FVec F S2048x2x64 .f32) (u : FVec F S2x64 .f32) (i : IVec S_ 32) : FVec F S2048x2x64 .f32 :=
  Host.dynamicUpdateSlice x (broadcastInDim S1x2x64 ![1, 2] bcast_S2x64_S1x2x64_1_2 u)
    (fun k => (((![i, constantI S_ 32 0#32, constantI S_ 32 0#32] : Fin 3 → IVec S_ 32)) k (Shape.Idx.first h_S_)).toInt) updateFits_S2048x2x64_S1x2x64
def putValues (x : FVec F S2048x2x400 .f32) (u : FVec F S2x400 .f32) (i : IVec S_ 32) : FVec F S2048x2x400 .f32 :=
  Host.dynamicUpdateSlice x (broadcastInDim S1x2x400 ![1, 2] bcast_S2x400_S1x2x400_1_2 u)
    (fun k => (((![i, constantI S_ 32 0#32, constantI S_ 32 0#32] : Fin 3 → IVec S_ 32)) k (Shape.Idx.first h_S_)).toInt) updateFits_S2048x2x400_S1x2x400

theorem read_put_keys (X : Valuation τ sig (Elt F)) :
    after while0Ops0_2 X (Proc.devRef .tc main_while0b_v36) = putKeys (X (Proc.devRef .tc main_v3_7)) (X (Proc.devRef .tc main_while0b_v34)) (X (Proc.devRef .tc main_v3_6)) := by
  after_results_simp
  unfold putKeys
  simp only [TRef.toBuf, TRef.ofBuf, cast_eq]
  congr 1
  funext k
  fin_cases k
  · refine congrArg (fun v : IVec S_ 32 => BitVec.toInt (v (Shape.Idx.first h_S_))) (a₁ := _) (a₂ := X (Proc.devRef .tc main_v3_6)) ?_
    show HloOp.result _ (HloOp.result _ (HloOp.result _ X)) (Proc.devRef .tc main_v3_6) = _
    after_results_simp
  · refine congrArg (fun v : IVec S_ 32 => BitVec.toInt (v (Shape.Idx.first h_S_))) (a₁ := _) (a₂ := constantI S_ 32 0#32) ?_
    show HloOp.result _ (HloOp.result _ (HloOp.result _ X)) (Proc.devRef .tc main_while0b_call1_c) = _
    after_results_simp
    rfl
  · refine congrArg (fun v : IVec S_ 32 => BitVec.toInt (v (Shape.Idx.first h_S_))) (a₁ := _) (a₂ := constantI S_ 32 0#32) ?_
    show HloOp.result _ (HloOp.result _ (HloOp.result _ X)) (Proc.devRef .tc main_while0b_call1_c_0) = _
    after_results_simp
    rfl
theorem read_put_values (X : Valuation τ sig (Elt F)) :
    after while0Ops0_3 X (Proc.devRef .tc main_while0b_v37) = putValues (X (Proc.devRef .tc main_v3_8)) (X (Proc.devRef .tc main_while0b_v35)) (X (Proc.devRef .tc main_v3_6)) := by
  after_results_simp
  unfold putValues
  simp only [TRef.toBuf, TRef.ofBuf, cast_eq]
  congr 1
  funext k
  fin_cases k
  · refine congrArg (fun v : IVec S_ 32 => BitVec.toInt (v (Shape.Idx.first h_S_))) (a₁ := _) (a₂ := X (Proc.devRef .tc main_v3_6)) ?_
    show HloOp.result _ (HloOp.result _ (HloOp.result _ X)) (Proc.devRef .tc main_v3_6) = _
    after_results_simp
  · refine congrArg (fun v : IVec S_ 32 => BitVec.toInt (v (Shape.Idx.first h_S_))) (a₁ := _) (a₂ := constantI S_ 32 0#32) ?_
    show HloOp.result _ (HloOp.result _ (HloOp.result _ X)) (Proc.devRef .tc main_while0b_call2_c) = _
    after_results_simp
    rfl
  · refine congrArg (fun v : IVec S_ 32 => BitVec.toInt (v (Shape.Idx.first h_S_))) (a₁ := _) (a₂ := constantI S_ 32 0#32) ?_
    show HloOp.result _ (HloOp.result _ (HloOp.result _ X)) (Proc.devRef .tc main_while0b_call2_c_0) = _
    after_results_simp
    rfl
theorem read_copy_keys (X : Valuation τ sig (Elt F)) :
    after while0Ops0_4 X (Proc.devRef .tc main_v3_7) = X (Proc.devRef .tc main_while0b_v36) := by
  after_results
  rfl
theorem read_copy_values (X : Valuation τ sig (Elt F)) :
    after while0Ops0_4 X (Proc.devRef .tc main_v3_8) = X (Proc.devRef .tc main_while0b_v37) := by
  after_results
  rfl

/-- What a stretch of the loop does not write it keeps. -/
theorem keep (a : Ref sig .tc) (X : Valuation τ sig (Elt F)) (h0 : a ∉ while0Ops0_W) (hc : a ∉ condOps_W) :
    after while0Ops0 (after condOps X) (Proc.devRef .tc a) = X (Proc.devRef .tc a) := by
  rw [after_of_writes_sub while0Ops0 _ while0Ops0_writes h0, after_of_writes_sub condOps _ condOps_writes hc]

/-- One trip of the loop, on the keys' and the values' arrays. -/
theorem trip_keys (X : Valuation τ sig (Elt F)) :
    afterL bodyI (after condOps X) (Proc.devRef .tc main_v3_7)
      = putKeys (X (Proc.devRef .tc main_v3_7)) (keys (rowAt (X (Proc.devRef .tc main_v3_0)) (X (Proc.devRef .tc main_v3_6)))
          (X (Proc.devRef .tc main_v3_2)) (X (Proc.devRef .tc main_v3_3))) (X (Proc.devRef .tc main_v3_6)) := by
  simp only [afterL_cons, afterL_nil]
  rw [read_copy_keys, after_of_writes_sub while0Ops0_3 _ while0Ops0_3_writes (r := main_while0b_v36) (by decide +kernel), read_put_keys,
    read_keys, ctr_while0Ops0_1, after_of_writes_sub while0Ops0_1 _ while0Ops0_1_writes (r := main_v3_7) (by decide +kernel), read_row,
    keep main_v3_7 X (by decide +kernel) (by decide +kernel), keep main_v3_2 X (by decide +kernel) (by decide +kernel),
    keep main_v3_3 X (by decide +kernel) (by decide +kernel), keep main_v3_6 X (by decide +kernel) (by decide +kernel), ctr_cond,
    after_of_writes_sub condOps _ condOps_writes (r := main_v3_0) (by decide +kernel)]
theorem trip_values (X : Valuation τ sig (Elt F)) :
    afterL bodyI (after condOps X) (Proc.devRef .tc main_v3_8)
      = putValues (X (Proc.devRef .tc main_v3_8)) (values (rowAt (X (Proc.devRef .tc main_v3_0)) (X (Proc.devRef .tc main_v3_6)))
          (X (Proc.devRef .tc main_v3_4)) (X (Proc.devRef .tc main_v3_5))) (X (Proc.devRef .tc main_v3_6)) := by
  simp only [afterL_cons, afterL_nil]
  rw [read_copy_values, read_put_values, ctr_while0Ops0_2, ctr_while0Ops0_1,
    after_of_writes_sub while0Ops0_2 _ while0Ops0_2_writes (r := main_v3_8) (by decide +kernel),
    after_of_writes_sub while0Ops0_2 _ while0Ops0_2_writes (r := main_while0b_v35) (by decide +kernel), read_values,
    after_of_writes_sub while0Ops0_1 _ while0Ops0_1_writes (r := main_v3_8) (by decide +kernel), read_row,
    keep main_v3_8 X (by decide +kernel) (by decide +kernel), keep main_v3_4 X (by decide +kernel) (by decide +kernel),
    keep main_v3_5 X (by decide +kernel) (by decide +kernel), keep main_v3_6 X (by decide +kernel) (by decide +kernel), ctr_cond,
    after_of_writes_sub condOps _ condOps_writes (r := main_v3_0) (by decide +kernel)]

/-! ## The operations before the loop, after it and at the end -/

theorem entry_input (X : Valuation τ sig (Elt F)) : after hostOps0 X (Proc.devRef .tc main_v3_0)
    = transpose S2048x1x1024 [1, 0, 2] (X (Proc.devRef .tc main_arg0)) transposes_S1x2048x1024_S2048x1x1024_1_0_2 := by
  after_results
  rfl
theorem entry_wk (X : Valuation τ sig (Elt F)) : after hostOps0 X (Proc.devRef .tc main_v3_2) = X (Proc.devRef .tc main_arg3) := by
  after_results
  rfl
theorem entry_bk (X : Valuation τ sig (Elt F)) : after hostOps0 X (Proc.devRef .tc main_v3_3) = X (Proc.devRef .tc main_arg4) := by
  after_results
  rfl
theorem entry_wv (X : Valuation τ sig (Elt F)) : after hostOps0 X (Proc.devRef .tc main_v3_4) = X (Proc.devRef .tc main_arg5) := by
  after_results
  rfl
theorem entry_bv (X : Valuation τ sig (Elt F)) : after hostOps0 X (Proc.devRef .tc main_v3_5) = X (Proc.devRef .tc main_arg6) := by
  after_results
  rfl

theorem laid_q (X : Valuation τ sig (Elt F)) : after hostOps0_1 X (Proc.devRef .tc main_v5)
    = shapeCast S128x512 (transpose S128x8x64 [1, 0, 2] (X (Proc.devRef .tc main_arg7)) transposes_S8x128x64_S128x8x64_1_0_2) shapeCasts_S128x8x64_S128x512 := by
  after_results
  rfl
theorem laid_i (X : Valuation τ sig (Elt F)) : after hostOps0_1 X (Proc.devRef .tc main_v7)
    = shapeCast S400x4096 (transpose S400x8x512 [1, 0, 2] (X (Proc.devRef .tc main_arg8)) transposes_S8x400x512_S400x8x512_1_0_2) shapeCasts_S400x8x512_S400x4096 := by
  after_results
  rfl
theorem laid_r (X : Valuation τ sig (Elt F)) : after hostOps0_1 X (Proc.devRef .tc main_v9)
    = shapeCast S128x4096 (transpose S128x8x512 [1, 0, 2] (X (Proc.devRef .tc main_arg9)) transposes_S8x128x512_S128x8x512_1_0_2) shapeCasts_S128x8x512_S128x4096 := by
  after_results
  rfl
/-- The three attention weights side by side. -/
def sideBySide (q k : FVec F S8x128x128 .f32) (v : FVec F S8x128x512 .f32) : FVec F S128x6144 .f32 :=
  concatenate S128x6144 1 [⟨S128x1024, shapeCast S128x1024 (transpose S128x8x128 [1, 0, 2] q transposes_S8x128x128_S128x8x128_1_0_2) shapeCasts_S128x8x128_S128x1024⟩,
    ⟨S128x1024, shapeCast S128x1024 (transpose S128x8x128 [1, 0, 2] k transposes_S8x128x128_S128x8x128_1_0_2) shapeCasts_S128x8x128_S128x1024⟩,
    ⟨S128x4096, shapeCast S128x4096 (transpose S128x8x512 [1, 0, 2] v transposes_S8x128x512_S128x8x512_1_0_2) shapeCasts_S128x8x512_S128x4096⟩]
    concatenates_S128x1024_S128x1024_S128x4096_S128x6144_d1
theorem laid_a (X : Valuation τ sig (Elt F)) : after hostOps0_1 X (Proc.devRef .tc main_v16)
    = sideBySide (X (Proc.devRef .tc main_arg10)) (X (Proc.devRef .tc main_arg11)) (X (Proc.devRef .tc main_arg12)) := by
  after_results
  rfl

theorem out_weights (X : Valuation τ sig (Elt F)) : after hostOps1 X (Proc.devRef .tc main_v19)
    = shapeCast S4096 (extractStridedSlice S2048x2 ![0, 0] (X (Proc.devRef .tc main_v17_0)) slices_S2048x128_S2048x2_0_0) shapeCasts_S2048x2_S4096 := by
  after_results
  rfl
theorem out_experts (X : Valuation τ sig (Elt F)) : after hostOps1 X (Proc.devRef .tc main_v21)
    = shapeCast S4096 (extractStridedSlice S2048x2 ![0, 0] (X (Proc.devRef .tc main_v17_1)) slices_S2048x128_S2048x2_0_0) shapeCasts_S2048x2_S4096 := by
  after_results
  rfl

end Cert.KernelIdeal.Run

end
-- ==== Proof.KernelIdeal.Blocks.lean ====
/- The region's blocks at coordinates: each grid point reads 256 rows of the projected keys and values and the whole of
   every other array, so that the eight points' steps are one run of 2048 steps, and the two output arrays hold a row
   for every step. -/
module

public import proofs.«01_k».proof.Proof.KernelIdeal.Region
public import Idealize.ShloMosaic.Lib.Pipeline.ValueKit
public import Idealize.ShloMosaic.Lib.Pointwise

@[expose] public section

set_option maxRecDepth 16384

noncomputable section

namespace Cert.KernelIdeal.Region

open Idealize.ShloMosaic Idealize.ShloMosaic.TcCoe
open Idealize.SL.Sem
open Cert.KernelIdeal Cert.KernelIdeal.Gen Cert.KernelIdeal.Body

variable {F : FTy → Type} [FloatOps F]
variable (V : (c : Dev nD) → (b : Ref sig .tc) → Buf (Elt F) ((c : Thread nD τ).loc b))

theorem index0_0 : ∀ t : Fin cfg0.N, win0_0.index t = ![t.val, 0, 0] := (by decide +kernel : ∀ t : Fin grid0.N, _)
theorem index0_1 : ∀ t : Fin cfg0.N, win0_1.index t = ![t.val, 0, 0] := (by decide +kernel : ∀ t : Fin grid0.N, _)
theorem index0_2 : ∀ t : Fin cfg0.N, win0_2.index t = ![0, 0, 0] := (by decide +kernel : ∀ t : Fin grid0.N, _)
theorem index0_3 : ∀ t : Fin cfg0.N, win0_3.index t = ![0, 0, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![0, 0] := (by decide +kernel : ∀ t : Fin grid0.N, _)
theorem index0_6 : ∀ t : Fin cfg0.N, win0_6.index t = ![0, 0] := (by decide +kernel : ∀ t : Fin grid0.N, _)
theorem index0_7 : ∀ t : Fin cfg0.N, win0_7.index t = ![0, 0] := (by decide +kernel : ∀ t : Fin grid0.N, _)
theorem index0_8 : ∀ t : Fin cfg0.N, win0_8.index t = ![0, 0, 0] := (by decide +kernel : ∀ t : Fin grid0.N, _)
theorem index0_9 : ∀ t : Fin cfg0.N, win0_9.index t = ![t.val, 0] := (by decide +kernel : ∀ t : Fin grid0.N, _)
theorem index0_10 : ∀ t : Fin cfg0.N, win0_10.index t = ![t.val, 0] := (by decide +kernel : ∀ t : Fin grid0.N, _)

theorem point_lt (t : Fin cfg0.N) : t.val < 8 := lt_of_lt_of_eq t.isLt (show cfg0.N = 8 from N_0)

/-- Row `r` of point `t`'s keys is row `256 t + r` of the array. -/
theorem keys_at (c : Dev nD) (t : Fin cfg0.N) (y : S256x2x64.Idx) (n : Fin 2048) (hn : n.val = 256 * t.val + (y 0).val) :
    iblk0 V c 0 t y = (V c main_v3_7 : Vec F S2048x2x64 .f32) (ix3 n (y 1) (y 2)) := by
  blk_simp [iblk0]
  refine congrArg (V c main_v3_7 : Vec F S2048x2x64 .f32) ?_
  blk_ext [index0_0]

theorem values_at (c : Dev nD) (t : Fin cfg0.N) (y : S256x2x400.Idx) (n : Fin 2048) (hn : n.val = 256 * t.val + (y 0).val) :
    iblk0 V c 1 t y = (V c main_v3_8 : Vec F S2048x2x400 .f32) (ix3 n (y 1) (y 2)) := by
  blk_simp [iblk0]
  refine congrArg (V c main_v3_8 : Vec F S2048x2x400 .f32) ?_
  blk_ext [index0_1]

/-! Every other input's block is its whole array. -/
theorem whole0_2 (c : Dev nD) (t : Fin cfg0.N) : iblk0 V c 2 t = (V c main_arg1 : Vec F S1x8x128 .f32) := by
  funext y
  blk_simp [iblk0]
  refine congrArg (V c main_arg1 : Vec F S1x8x128 .f32) ?_
  blk_ext [index0_2]
theorem whole0_3 (c : Dev nD) (t : Fin cfg0.N) : iblk0 V c 3 t = (V c main_arg2 : Vec F S1x8x128 .f32) := by
  funext y
  blk_simp [iblk0]
  refine congrArg (V c main_arg2 : Vec F S1x8x128 .f32) ?_
  blk_ext [index0_3]
theorem whole0_4 (c : Dev nD) (t : Fin cfg0.N) : iblk0 V c 4 t = (V c main_v5 : Vec F S128x512 .f32) := by
  funext y
  blk_simp [iblk0]
  refine congrArg (V c main_v5 : Vec F S128x512 .f32) ?_
  blk_ext [index0_4]
theorem whole0_5 (c : Dev nD) (t : Fin cfg0.N) : iblk0 V c 5 t = (V c main_v7 : Vec F S400x4096 .f32) := by
  funext y
  blk_simp [iblk0]
  refine congrArg (V c main_v7 : Vec F S400x4096 .f32) ?_
  blk_ext [index0_5]
theorem whole0_6 (c : Dev nD) (t : Fin cfg0.N) : iblk0 V c 6 t = (V c main_v9 : Vec F S128x4096 .f32) := by
  funext y
  blk_simp [iblk0]
  refine congrArg (V c main_v9 : Vec F S128x4096 .f32) ?_
  blk_ext [index0_6]
theorem whole0_7 (c : Dev nD) (t : Fin cfg0.N) : iblk0 V c 7 t = (V c main_v16 : Vec F S128x6144 .f32) := by
  funext y
  blk_simp [iblk0]
  refine congrArg (V c main_v16 : Vec F S128x6144 .f32) ?_
  blk_ext [index0_7]
theorem whole0_8 (c : Dev nD) (t : Fin cfg0.N) : iblk0 V c 8 t = (V c main_arg13 : Vec F S8x512x128 .f32) := by
  funext y
  blk_simp [iblk0]
  refine congrArg (V c main_arg13 : Vec F S8x512x128 .f32) ?_
  blk_ext [index0_8]

/-! ## One run of 2048 steps -/

/-- The weights, the step's key and value, and the carried pair before a step, off the arrays. -/
def wts (c : Dev nD) : Step.Weights F := ⟨V c main_v5, V c main_v7, V c main_v9, V c main_v16, V c main_arg13⟩
def keyOf (c : Dev nD) (n : ℕ) : Vec F S1x2x64 .f32 := fun y => (V c main_v3_7 : Vec F S2048x2x64 .f32) (ix3 ⟨n % 2048, Nat.mod_lt _ (by decide)⟩ (y 1) (y 2))
def valueOf (c : Dev nD) (n : ℕ) : Vec F S1x2x400 .f32 := fun y => (V c main_v3_8 : Vec F S2048x2x400 .f32) (ix3 ⟨n % 2048, Nat.mod_lt _ (by decide)⟩ (y 1) (y 2))
def carried (c : Dev nD) (n : ℕ) : Vec F S8x128 .f32 × Vec F S8x128 .f32 :=
  Step.run (wts V c) (keyOf V c) (valueOf V c) (k0_pay1 (V c main_arg1 : Vec F S1x8x128 .f32), k0_pay2 (V c main_arg2 : Vec F S1x8x128 .f32)) n

theorem weights_eq (c : Dev nD) (t : Fin cfg0.N) : weights V c t = wts V c := by
  unfold weights wts; rw [whole0_4, whole0_5, whole0_6, whole0_7, whole0_8]

theorem rowK_eq (c : Dev nD) (t : Fin cfg0.N) (r : ℕ) (hr : r < 256) : rowK (iblk0 V c 0 t) r = keyOf V c (256 * t.val + r) := by
  have ht := point_lt t
  funext y
  unfold rowK keyOf
  rw [keys_at V c t _ ⟨(256 * t.val + r) % 2048, Nat.mod_lt _ (by decide)⟩ (by show (256 * t.val + r) % 2048 = 256 * t.val + r % 256; omega)]
theorem rowV_eq (c : Dev nD) (t : Fin cfg0.N) (r : ℕ) (hr : r < 256) : rowV (iblk0 V c 1 t) r = valueOf V c (256 * t.val + r) := by
  have ht := point_lt t
  funext y
  unfold rowV valueOf
  rw [values_at V c t _ ⟨(256 * t.val + r) % 2048, Nat.mod_lt _ (by decide)⟩ (by show (256 * t.val + r) % 2048 = 256 * t.val + r % 256; omega)]

/-- A point's steps, from the pair carried into it, are the steps `256 t + r` of the whole run. -/
theorem pairAt_eq (c : Dev nD) (t : Fin cfg0.N) (s) (hs : s = carried V c (256 * t.val)) :
    ∀ r, r ≤ 256 → pairAt (weights V c t) (iblk0 V c 0 t) (iblk0 V c 1 t) s r = carried V c (256 * t.val + r)
  | 0, _ => hs
  | r + 1, hr => by
    have ih := pairAt_eq c t s hs r (by omega)
    show Step.next (weights V c t) (rowK (iblk0 V c 0 t) r) (rowV (iblk0 V c 1 t) r) (pairAt (weights V c t) (iblk0 V c 0 t) (iblk0 V c 1 t) s r) =
      Step.next (wts V c) (keyOf V c (256 * t.val + r)) (valueOf V c (256 * t.val + r)) (carried V c (256 * t.val + r))
    rw [ih, weights_eq, rowK_eq V c t r (by omega), rowV_eq V c t r (by omega)]

theorem pairs_eq (c : Dev nD) : ∀ n, n ≤ 8 → pairs V c n = carried V c (256 * n)
  | 0, _ => by
    show (k0_pay1 (iblk0 V c 2 (pt 0)), k0_pay2 (iblk0 V c 3 (pt 0))) = _
    rw [whole0_2, whole0_3]; rfl
  | n + 1, hn => by
    have hp : (pt n).val = n := Nat.mod_eq_of_lt (by omega)
    have h := pairAt_eq V c (pt n) (pairs V c n) (by rw [hp]; exact pairs_eq c n (by omega)) 256 le_rfl
    rw [hp] at h
    exact h

/-! ## The two output arrays -/

theorem outW_eq (c : Dev nD) (t : Fin cfg0.N) (y : S256x128.Idx) (n : ℕ) (hn : n = 256 * t.val + (y 0).val) (j : Fin 128) (hj : j = y 1) :
    outW (weights V c t) (iblk0 V c 0 t) (iblk0 V c 1 t) (pairs V c t.val) y = Step.weightRow (wts V c) (keyOf V c n) (carried V c n).1 (ix2 0 j) := by
  have ht := point_lt t
  have hy : (y 0).val < 256 := (y 0).isLt
  subst hn hj
  unfold outW
  rw [pairAt_eq V c t _ (pairs_eq V c t.val (by omega)) _ (by omega), weights_eq, rowK_eq V c t _ hy]
  rfl
theorem outE_eq (c : Dev nD) (t : Fin cfg0.N) (y : S256x128.Idx) (n : ℕ) (hn : n = 256 * t.val + (y 0).val) (j : Fin 128) (hj : j = y 1) :
    outE (weights V c t) (iblk0 V c 0 t) (iblk0 V c 1 t) (pairs V c t.val) y = Step.expertRow (wts V c) (keyOf V c n) (carried V c n).1 (ix2 0 j) := by
  have ht := point_lt t
  have hy : (y 0).val < 256 := (y 0).isLt
  subst hn hj
  unfold outE
  rw [pairAt_eq V c t _ (pairs_eq V c t.val (by omega)) _ (by omega), weights_eq, rowK_eq V c t _ hy]
  rfl

theorem weights_array (c : Dev nD) :
    (dat0 V c).arrAt 9 cfg0.N = (fun i => Step.weightRow (wts V c) (keyOf V c (i 0).val) (carried V c (i 0).val).1 (ix2 0 (i 1)) : Vec F S2048x128 .f32) := by
  refine (dat0 V c).arrAt_eq_of_covers 9 _ (by decide +kernel) fun t hf y => ?_
  have ht := point_lt t
  blk_simp
  rw [after0_9]
  exact outW_eq V c t y _ (by rw [index0_9]; simp; exact Nat.mul_comm _ _) _ (Fin.ext (by blk_simp [index0_9]))

theorem experts_array (c : Dev nD) :
    (dat0 V c).arrAt 10 cfg0.N = (fun i => Step.expertRow (wts V c) (keyOf V c (i 0).val) (carried V c (i 0).val).1 (ix2 0 (i 1)) : Vec F S2048x128 .i32) := by
  refine (dat0 V c).arrAt_eq_of_covers 10 _ (by decide +kernel) fun t hf y => ?_
  have ht := point_lt t
  blk_simp
  rw [after0_10]
  exact outE_eq V c t y _ (by rw [index0_10]; simp; exact Nat.mul_comm _ _) _ (Fin.ext (by blk_simp [index0_10]))

end Cert.KernelIdeal.Region

end
-- ==== Proof.Spec.lean ====
/- One step of the recurrence as plain mathematics over the extended reals: eight experts each score the step's two keys
   (the input's and the null one), the two experts with the greatest scores against the input's key are selected, a cell
   of gates gives each expert a new state, attention among the experts adds to it, and only the selected ones are updated.
   Both programs' steps are proved to have these entries. -/
module

public import Idealize.ShloMosaic.Lib.Pointwise
public import Idealize.ShloMosaic.Lib.SortFacts

@[expose] public section

noncomputable section

namespace Cert.Spec

open Idealize.ShloMosaic

/-- A matrix of extended reals. -/
abbrev Mat (a b : ℕ) := Fin a → Fin b → EReal

/-- The experts' weights, each by expert. -/
structure Params where
  q : Fin 8 → Mat 128 64
  i : Fin 8 → Mat 400 512
  r : Fin 8 → Mat 128 512
  aq : Fin 8 → Mat 128 128
  ak : Fin 8 → Mat 128 128
  av : Fin 8 → Mat 128 512
  o : Fin 8 → Mat 512 128

/-- Each expert's row through its own matrix. -/
def blockMul {n m : ℕ} (x : Mat 8 n) (w : Fin 8 → Mat n m) : Mat 8 m := fun e j => ∑ d : Fin n, x e d * w e d j

/-- The greatest of a row, and the row's softmax. -/
def rowMax {n : ℕ} (x : Fin n → EReal) : EReal := Finset.fold max (Ideal.ofBits .f32 0xFF800000#32) x Finset.univ
def softmax {n : ℕ} (x : Fin n → EReal) (i : Fin n) : EReal :=
  Ideal.div (Ideal.exp (x i - rowMax x)) (∑ j : Fin n, Ideal.exp (x j - rowMax x))

/-- The order the experts are ranked in: greater first, and of equals the lower number. -/
def pick (f : Fin 8 → EReal) (r : Fin 8) : Fin 8 := sortedFrom (fun a b => decide (f b < f a)) r

variable (p : Params) (K : Mat 2 64) (V : Mat 2 400) (h c : Mat 8 128)

def scores : Mat 8 2 := fun e s =>
  Ideal.div (∑ k : Fin 64, blockMul h p.q e k * K s k) (Ideal.ofBits .f32 0x41000000#32)
/-- The two selected experts, best first. -/
def first : Fin 8 := pick (fun e => scores p K h e 0) 0
def second : Fin 8 := pick (fun e => scores p K h e 0) 1
/-- The selected experts, as 1 and 0. -/
def mask (e : Fin 8) : EReal := if e = first p K h ∨ e = second p K h then 1 else 0
/-- The share of each key in each expert's attention. -/
def probs : Mat 8 2 := fun e => softmax (scores p K h e)
def inputs : Mat 8 400 := fun e d => (∑ s : Fin 2, probs p K h e s * V s d) * mask p K h e
def gates : Mat 8 512 := fun e g => blockMul (inputs p K V h) p.i e g + blockMul h p.r e g
def cellNew : Mat 8 128 := fun e j =>
  c e j * Ideal.logistic (gates p K V h e ⟨128 + j.val, by omega⟩)
    + Ideal.logistic (gates p K V h e ⟨j.val, by omega⟩) * Ideal.tanh (gates p K V h e ⟨384 + j.val, by omega⟩)
def hidNew : Mat 8 128 := fun e j =>
  Ideal.logistic (gates p K V h e ⟨256 + j.val, by omega⟩) * Ideal.tanh (cellNew p K V h c e j)
/-- The share of each expert in the attention of another one, per head. -/
def att (x y : Mat 8 128) (a : Fin 4) (i : Fin 8) : Fin 8 → EReal :=
  softmax fun j => Ideal.div (∑ d : Fin 32, x i ⟨a.val * 32 + d.val, by omega⟩ * y j ⟨a.val * 32 + d.val, by omega⟩)
    (Ideal.ofBits .f32 0x40B504F3#32)
/-- What the experts communicate: each head's mix of values, the heads side by side. -/
def heads (x y : Mat 8 128) (z : Mat 8 512) : Mat 8 512 := fun i n =>
  ∑ j : Fin 8, att x y ⟨n.val / 128, by omega⟩ i j * z j n
def comm (g : Mat 8 128) : Mat 8 128 :=
  blockMul (heads (blockMul g p.aq) (blockMul g p.ak) (blockMul g p.av)) p.o
/-- The next state: the selected experts' new one, the others' unchanged. -/
def hNext : Mat 8 128 := fun e j =>
  mask p K h e * (comm p (hidNew p K V h c) e j + hidNew p K V h c e j) + (1 - mask p K h e) * h e j
def cNext : Mat 8 128 := fun e j =>
  mask p K h e * cellNew p K V h c e j + (1 - mask p K h e) * c e j
/-- The two selected experts in the order of their numbers, and their attention to the input in shares of the two's sum. -/
def lo : Fin 8 := min (first p K h) (second p K h)
def hi : Fin 8 := max (first p K h) (second p K h)
def expert (i : Fin 2) : BitVec 32 := BitVec.ofNat 32 (if i = 0 then (lo p K h).val else (hi p K h).val)
def weight (i : Fin 2) : EReal :=
  Ideal.div (probs p K h (if i = 0 then lo p K h else hi p K h) 0) (probs p K h (lo p K h) 0 + probs p K h (hi p K h) 0)

end Cert.Spec
end
-- ==== Proof.KernelIdeal.Entries.lean ====
/- The entries of the kernel's step over the extended reals: each intermediate value of one step is the plain
   mathematics of the same name. -/
module

public import proofs.«01_k».proof.Proof.KernelIdeal.Step
public import proofs.«01_k».proof.Proof.Spec
public import Idealize.ShloMosaic.Lib.Pointwise

@[expose] public section

set_option maxRecDepth 16384

noncomputable section

namespace Cert.KernelIdeal.Entries

open Idealize.ShloMosaic Idealize.SL.Sem Cert.KernelIdeal Cert.KernelIdeal.Gen Cert.KernelIdeal.Step

/-- Of eight terms, each kept on its own row only, row `e` keeps the `e`-th; the terms are columns, `b` apart, of one row. -/
theorem own_cols {N : ℕ} (f : Fin N → EReal) (e : Fin 8) (b g : ℕ) (o1 o2 o3 o4 o5 o6 o7 : ℕ)
    (hb : o1 = b ∧ o2 = 2 * b ∧ o3 = 3 * b ∧ o4 = 4 * b ∧ o5 = 5 * b ∧ o6 = 6 * b ∧ o7 = 7 * b)
    (i0 : g < N) (i1 : o1 + g < N) (i2 : o2 + g < N) (i3 : o3 + g < N) (i4 : o4 + g < N) (i5 : o5 + g < N) (i6 : o6 + g < N)
    (i7 : o7 + g < N) (ie : b * e.val + g < N) :
    Scalar.select (IntOp.cmpi .eq (BitVec.ofNat 32 e.val) 0#32) (f ⟨g, i0⟩) 0
      + Scalar.select (IntOp.cmpi .eq (BitVec.ofNat 32 e.val) 1#32) (f ⟨o1 + g, i1⟩) 0
      + Scalar.select (IntOp.cmpi .eq (BitVec.ofNat 32 e.val) 2#32) (f ⟨o2 + g, i2⟩) 0
      + Scalar.select (IntOp.cmpi .eq (BitVec.ofNat 32 e.val) 3#32) (f ⟨o3 + g, i3⟩) 0
      + Scalar.select (IntOp.cmpi .eq (BitVec.ofNat 32 e.val) 4#32) (f ⟨o4 + g, i4⟩) 0
      + Scalar.select (IntOp.cmpi .eq (BitVec.ofNat 32 e.val) 5#32) (f ⟨o5 + g, i5⟩) 0
      + Scalar.select (IntOp.cmpi .eq (BitVec.ofNat 32 e.val) 6#32) (f ⟨o6 + g, i6⟩) 0
      + Scalar.select (IntOp.cmpi .eq (BitVec.ofNat 32 e.val) 7#32) (f ⟨o7 + g, i7⟩) 0
      = f ⟨b * e.val + g, ie⟩ := by
  obtain ⟨rfl, rfl, rfl, rfl, rfl, rfl, rfl⟩ := hb
  fin_cases e <;> simp [Scalar.select, IntOp.cmpi, Nat.mul_comm o1]

/-- The weights by expert, cut out of the matrices that hold the experts' side by side. -/
def params (W : Weights Ideal) : Spec.Params where
  q e d j := W.wq (ix2 d ⟨64 * e.val + j.val, by omega⟩)
  i e d j := W.wi (ix2 d ⟨512 * e.val + j.val, by omega⟩)
  r e d j := W.wh (ix2 d ⟨512 * e.val + j.val, by omega⟩)
  aq e d j := W.wa (ix2 d ⟨128 * e.val + j.val, by omega⟩)
  ak e d j := W.wa (ix2 d ⟨1024 + (128 * e.val + j.val), by omega⟩)
  av e d j := W.wa (ix2 d ⟨2048 + (512 * e.val + j.val), by omega⟩)
  o e d j := W.wo (ix3 e d j)

def matK (k : Vec Ideal S1x2x64 .f32) : Spec.Mat 2 64 := fun s j => k (ix3 0 s j)
def matV (v : Vec Ideal S1x2x400 .f32) : Spec.Mat 2 400 := fun s j => v (ix3 0 s j)
def matH (h : Vec Ideal S8x128 .f32) : Spec.Mat 8 128 := fun e j => h (ix2 e j)

variable (W : Weights Ideal) (k : Vec Ideal S1x2x64 .f32) (v : Vec Ideal S1x2x400 .f32) (h c : Vec Ideal S8x128 .f32)

theorem scores_at (e : Fin 8) (s : Fin 2) :
    Step.scores W k h (ix2 e s) = Spec.scores (params W) (matK k) (matH h) e s := by
  unfold Step.scores Spec.scores Spec.blockMul
  pointwise [k0_pay17, k0_pay10, k0_pay3, k0_pay13, k0_pay14, k0_pay15, k0_pay16, rowIds]
  refine congrArg (fun x => Ideal.div x _) (Finset.sum_congr rfl fun j _ => ?_)
  have hq (n : Fin 512) : k0_pay12 W.wq h (ix2 e n) = ∑ d : Fin 128, h (ix2 e d) * W.wq (ix2 d n) := by
    pointwise [k0_pay12]
  generalize k0_pay12 W.wq h = X at hq ⊢
  refine congrArg₂ (· * ·) ?_ rfl
  refine Eq.trans ?_ (hq ⟨64 * e.val + j.val, by omega⟩)
  exact own_cols (fun n => X (ix2 e n)) e 64 j.val 64 128 192 256 320 384 448 (by decide) _ _ _ _ _ _ _ _ _

theorem gatesIn_at (e : Fin 8) (g : Fin 4096) : gatesIn W k v h (ix2 e g) = ∑ d : Fin 400, Step.inputs W k v h (ix2 e d) * W.wi (ix2 d g) := by
  unfold gatesIn
  generalize Step.inputs W k v h = x
  pointwise [k0_pay30, k0_pay4]

theorem gatesInDiag_at (e : Fin 8) (g : Fin 512) :
    gatesInDiag W k v h (ix2 e g) = ∑ d : Fin 400, Step.inputs W k v h (ix2 e d) * (params W).i e d g := by
  have hd : gatesInDiag W k v h (ix2 e g) = gatesIn W k v h (ix2 e ⟨512 * e.val + g.val, by omega⟩) := by
    unfold gatesInDiag gatesIn k0_pay31
    generalize k0_pay30 (k0_pay4 W.wi) (Step.inputs W k v h) (constant S8x4096 .f32 0x00000000#32) = X
    pointwise [k0_pay32, rowIds]
    exact own_cols (fun n => X (ix2 e n)) e 512 g.val
      512 1024 1536 2048 2560 3072 3584 (by decide) _ _ _ _ _ _ _ _ _
  rw [hd, gatesIn_at]
  rfl

theorem gates_at (e : Fin 8) (g : Fin 512) :
    k0_pay36 rowIds (gatesInDiag W k v h) (k0_pay33 (k0_pay5 W.wh) h) (k0_pay34 rowIds (k0_pay5 W.wh) h) (k0_pay35 rowIds (k0_pay5 W.wh) h)
      (ix2 e g)
      = gatesInDiag W k v h (ix2 e g) + Spec.blockMul (matH h) (params W).r e g := by
  generalize gatesInDiag W k v h = x
  pointwise [k0_pay36, k0_pay34, k0_pay35, k0_pay5, rowIds]
  refine congrArg₂ (· + ·) rfl ?_
  have hq (n : Fin 4096) : k0_pay33 W.wh h (ix2 e n) = ∑ d : Fin 128, h (ix2 e d) * W.wh (ix2 d n) := by
    pointwise [k0_pay33]
  generalize k0_pay33 W.wh h = X at hq ⊢
  refine Eq.trans ?_ (hq ⟨512 * e.val + g.val, by omega⟩)
  exact own_cols (fun n => X (ix2 e n)) e 512 g.val 512 1024 1536 2048 2560 3072 3584 (by decide) _ _ _ _ _ _ _ _ _

/-- The gates' entries, once the masked inputs' are known. -/
theorem gates_spec (hi : ∀ e d, Step.inputs W k v h (ix2 e d) = Spec.inputs (params W) (matK k) (matV v) (matH h) e d)
    (e : Fin 8) (g : Fin 512) :
    k0_pay36 rowIds (gatesInDiag W k v h) (k0_pay33 (k0_pay5 W.wh) h) (k0_pay34 rowIds (k0_pay5 W.wh) h) (k0_pay35 rowIds (k0_pay5 W.wh) h)
      (ix2 e g) = Spec.gates (params W) (matK k) (matV v) (matH h) e g := by
  rw [gates_at, gatesInDiag_at]
  simp only [hi]
  rfl

theorem cellNew_at (hi : ∀ e d, Step.inputs W k v h (ix2 e d) = Spec.inputs (params W) (matK k) (matV v) (matH h) e d)
    (e : Fin 8) (j : Fin 128) :
    Step.cellNew W k v h c (ix2 e j) = Spec.cellNew (params W) (matK k) (matV v) (matH h) (matH c) e j := by
  have hg := gates_spec W k v h hi
  unfold Step.cellNew Spec.cellNew
  pointwise [k0_pay37, hg]
  rfl

theorem hidNew_at (hi : ∀ e d, Step.inputs W k v h (ix2 e d) = Spec.inputs (params W) (matK k) (matV v) (matH h) e d)
    (e : Fin 8) (j : Fin 128) :
    Step.hidNew W k v h c (ix2 e j) = Spec.hidNew (params W) (matK k) (matV v) (matH h) (matH c) e j := by
  have hg := gates_spec W k v h hi
  have hc := cellNew_at W k v h c hi e j
  unfold Step.cellNew at hc
  unfold Step.hidNew Spec.hidNew
  rw [← hc]
  pointwise [k0_pay38, hg]

theorem proj_at (e : Fin 8) (n : Fin 6144) :
    proj W k v h c (ix2 e n) = ∑ d : Fin 128, Step.hidNew W k v h c (ix2 e d) * W.wa (ix2 d n) := by
  unfold proj Step.hidNew
  pointwise [k0_pay39, k0_pay6]

theorem query_at (e : Fin 8) (j : Fin 128) :
    query W k v h c (ix2 e j) = Spec.blockMul (matH (Step.hidNew W k v h c)) (params W).aq e j := by
  have hp := proj_at W k v h c e
  unfold proj at hp
  unfold query projQ k0_pay40
  generalize k0_pay39 (F := Ideal) _ _ _ _ _ _ _ = X at hp ⊢
  pointwise [k0_pay44, k0_pay42, k0_pay43, k0_pay41, rowIds]
  refine Eq.trans ?_ (hp ⟨128 * e.val + j.val, by omega⟩)
  exact own_cols (fun n => X (ix2 e n)) e 128 j.val 128 256 384 512 640 768 896 (by decide) _ _ _ _ _ _ _ _ _

theorem key_at (e : Fin 8) (j : Fin 128) :
    key W k v h c (ix2 e j) = Spec.blockMul (matH (Step.hidNew W k v h c)) (params W).ak e j := by
  have hp := proj_at W k v h c e
  unfold key
  generalize proj W k v h c = X at hp ⊢
  pointwise [k0_pay48, k0_pay45, k0_pay46, k0_pay47, rowIds]
  refine Eq.trans ?_ (hp ⟨1024 + (128 * e.val + j.val), by omega⟩)
  exact own_cols (fun n : Fin 1024 => X (ix2 e ⟨1024 + n.val, by omega⟩)) e 128 j.val 128 256 384 512 640 768 896 (by decide)
    (by omega) (by omega) (by omega) (by omega) (by omega) (by omega) (by omega) (by omega) (by omega)

theorem value_at (e : Fin 8) (j : Fin 512) :
    value W k v h c (ix2 e j) = Spec.blockMul (matH (Step.hidNew W k v h c)) (params W).av e j := by
  have hp := proj_at W k v h c e
  unfold value
  generalize proj W k v h c = X at hp ⊢
  pointwise [k0_pay52, k0_pay49, k0_pay50, k0_pay51, rowIds]
  refine Eq.trans ?_ (hp ⟨2048 + (512 * e.val + j.val), by omega⟩)
  exact own_cols (fun n : Fin 4096 => X (ix2 e ⟨2048 + n.val, by omega⟩)) e 512 j.val 512 1024 1536 2048 2560 3072 3584 (by decide)
    (by omega) (by omega) (by omega) (by omega) (by omega) (by omega) (by omega) (by omega) (by omega)

def matV8 (x : FVec Ideal S8x512 .f32) : Spec.Mat 8 512 := fun e j => x (ix2 e j)

/-- One head's mix of values, from its columns of the queries, keys and values. -/
theorem head_at (x y : FVec Ideal S8x32 .f32) (z : FVec Ideal S8x128 .f32) (X Y : Spec.Mat 8 128) (Z : Spec.Mat 8 512) (a : Fin 4)
    (hx : ∀ i d, x (ix2 i d) = X i ⟨a.val * 32 + d.val, by omega⟩) (hy : ∀ i d, y (ix2 i d) = Y i ⟨a.val * 32 + d.val, by omega⟩)
    (hz : ∀ i d, z (ix2 i d) = Z i ⟨a.val * 128 + d.val, by omega⟩) (e : Fin 8) (j : Fin 128) :
    k0_pay56 x y z (ix2 e j) = Spec.heads X Y Z e ⟨a.val * 128 + j.val, by omega⟩ := by
  have ha : (⟨(a.val * 128 + j.val) / 128, by omega⟩ : Fin 4) = a := Fin.ext (by simp only; omega)
  have hh : Spec.heads X Y Z e ⟨a.val * 128 + j.val, by omega⟩ = ∑ i : Fin 8, Spec.att X Y a e i * Z i ⟨a.val * 128 + j.val, by omega⟩ := by
    unfold Spec.heads
    simp only [ha]
  rw [hh]
  unfold Spec.att Spec.softmax Spec.rowMax
  pointwise [k0_pay56]
  simp only [hx, hy, hz]

theorem head0_at (e : Fin 8) (j : Fin 128) :
    head0 W k v h c (ix2 e j) = Spec.heads (matH (query W k v h c)) (matH (key W k v h c)) (matV8 (value W k v h c)) e ⟨j.val, by omega⟩ := by
  unfold head0
  generalize query W k v h c = x
  generalize key W k v h c = y
  refine (head_at _ _ _ (matH x) (matH y) (matV8 (value W k v h c)) 0 (fun i d => ?_) (fun i d => ?_) (fun i d => ?_) e j).trans ?_
  · pointwise [k0_pay53, matH]
  · pointwise [k0_pay54, matH]
  · unfold value
    pointwise [k0_pay55, matV8]
  · simp

theorem head1_at (x y : FVec Ideal S8x128 .f32) (z : FVec Ideal S8x512 .f32) (e : Fin 8) (j : Fin 128) :
    k0_pay57 x y z (ix2 e j) = Spec.heads (matH x) (matH y) (matV8 z) e ⟨128 + j.val, by omega⟩ := by
  refine Eq.trans ?_ ((head_at (extractStridedSlice S8x32 ![0, 32] x slices_S8x128_o0_32_S8x32)
    (extractStridedSlice S8x32 ![0, 32] y slices_S8x128_o0_32_S8x32) (extractStridedSlice S8x128 ![0, 128] z slices_S8x512_o0_128_S8x128)
    (matH x) (matH y) (matV8 z) 1 (fun i d => ?_) (fun i d => ?_) (fun i d => ?_) e j).trans ?_)
  · rfl
  · pointwise [matH]
  · pointwise [matH]
  · pointwise [matV8]
  · rfl

theorem head2_at (x y : FVec Ideal S8x128 .f32) (z : FVec Ideal S8x512 .f32) (e : Fin 8) (j : Fin 128) :
    k0_pay58 x y z (ix2 e j) = Spec.heads (matH x) (matH y) (matV8 z) e ⟨256 + j.val, by omega⟩ := by
  refine Eq.trans ?_ ((head_at (extractStridedSlice S8x32 ![0, 64] x slices_S8x128_o0_64_S8x32)
    (extractStridedSlice S8x32 ![0, 64] y slices_S8x128_o0_64_S8x32) (extractStridedSlice S8x128 ![0, 256] z slices_S8x512_o0_256_S8x128)
    (matH x) (matH y) (matV8 z) 2 (fun i d => ?_) (fun i d => ?_) (fun i d => ?_) e j).trans ?_)
  · rfl
  · pointwise [matH]
  · pointwise [matH]
  · pointwise [matV8]
  · rfl

/-- The fourth head's mix, as it stands within the next hidden state's expression. -/
def head3 (x y : FVec Ideal S8x128 .f32) (z : FVec Ideal S8x512 .f32) : FVec Ideal S8x128 .f32 :=
  k0_pay56 (extractStridedSlice S8x32 ![0, 96] x slices_S8x128_o0_96_S8x32)
    (extractStridedSlice S8x32 ![0, 96] y slices_S8x128_o0_96_S8x32) (extractStridedSlice S8x128 ![0, 384] z slices_S8x512_o0_384_S8x128)

theorem head3_at (x y : FVec Ideal S8x128 .f32) (z : FVec Ideal S8x512 .f32) (e : Fin 8) (j : Fin 128) :
    head3 x y z (ix2 e j) = Spec.heads (matH x) (matH y) (matV8 z) e ⟨384 + j.val, by omega⟩ := by
  refine (head_at _ _ _ (matH x) (matH y) (matV8 z) 3 (fun i d => ?_) (fun i d => ?_) (fun i d => ?_) e j).trans ?_
  · pointwise [matH]
  · pointwise [matH]
  · pointwise [matV8]
  · rfl

/-- The communication added to the new state and the mask taken, from the heads side by side. -/
def mixOf (wo : FVec Ideal S8x512x128 .f32) (h : Vec Ideal S8x128 .f32) (m : FVec Ideal S8x1 .f32) (g : FVec Ideal S8x128 .f32)
    (a : FVec Ideal S8x512 .f32) : FVec Ideal S8x128 .f32 :=
  addf (mulf (broadcastTo S8x128 m broadcasts_S8x1_S8x128)
      (addf (shapeCast S8x128 (matmul dot_S8x1x512_S8x512x128_S8x1x128_2_1_1_2_0_0 none (shapeCast S8x1x512 a shapeCasts_S8x512_S8x1x512) wo
        (constant S8x1x128 .f32 0x00000000#32)) shapeCasts_S8x1x128_S8x128) g))
    (mulf (broadcastTo S8x128 (subf (broadcast S8x1 (Scalar.ofBits .f32 0x3F800000#32)) m) broadcasts_S8x1_S8x128) h)

/-- Four blocks of columns side by side. -/
theorem side_by_side (a0 a1 a2 a3 : FVec Ideal S8x128 .f32) (H : Spec.Mat 8 512)
    (h0 : ∀ e (j : Fin 128), a0 (ix2 e j) = H e ⟨j.val, by omega⟩) (h1 : ∀ e (j : Fin 128), a1 (ix2 e j) = H e ⟨128 + j.val, by omega⟩)
    (h2 : ∀ e (j : Fin 128), a2 (ix2 e j) = H e ⟨256 + j.val, by omega⟩)
    (h3 : ∀ e (j : Fin 128), a3 (ix2 e j) = H e ⟨384 + j.val, by omega⟩) (e : Fin 8) (d : Fin 512) :
    concatenate S8x512 1 [⟨S8x128, a0⟩, ⟨S8x128, a1⟩, ⟨S8x128, a2⟩, ⟨S8x128, a3⟩] concatenates_S8x128_S8x128_S8x128_S8x128_S8x512_d1 (ix2 e d)
      = H e d := by
  pointwise []
  by_cases c0 : d.val < 128
  · rw [dif_pos c0, h0]
  rw [dif_neg c0]
  by_cases c1 : d.val - 128 < 128
  · rw [dif_pos c1, h1]; exact congrArg (H e) (Fin.ext (by simp only; omega))
  rw [dif_neg c1]
  by_cases c2 : d.val - 128 - 128 < 128
  · rw [dif_pos c2, h2]; exact congrArg (H e) (Fin.ext (by simp only; omega))
  rw [dif_neg c2, h3]; exact congrArg (H e) (Fin.ext (by simp only; omega))

/-- The four heads side by side through the output's matrices, the new hidden state added and the mask taken, from any
    heads' values. -/
theorem mix_at (wo : Vec Ideal S8x512x128 .f32) (h : Vec Ideal S8x128 .f32) (m : FVec Ideal S8x1 .f32) (g x y : FVec Ideal S8x128 .f32)
    (z : FVec Ideal S8x512 .f32) (a0 a1 a2 : FVec Ideal S8x128 .f32) (H : Spec.Mat 8 512)
    (h0 : ∀ e (j : Fin 128), a0 (ix2 e j) = H e ⟨j.val, by omega⟩) (h1 : ∀ e (j : Fin 128), a1 (ix2 e j) = H e ⟨128 + j.val, by omega⟩)
    (h2 : ∀ e (j : Fin 128), a2 (ix2 e j) = H e ⟨256 + j.val, by omega⟩)
    (h3 : ∀ e (j : Fin 128), head3 x y z (ix2 e j) = H e ⟨384 + j.val, by omega⟩) (e : Fin 8) (j : Fin 128) :
    k0_pay59 wo h m g x y z a0 a1 a2 (ix2 e j)
      = m (ix2 e 0) * ((∑ d : Fin 512, H e d * wo (ix3 e d j)) + g (ix2 e j)) + (1 - m (ix2 e 0)) * h (ix2 e j) := by
  have hf : k0_pay59 wo h m g x y z a0 a1 a2 = mixOf wo h m g
      (concatenate S8x512 1 [⟨S8x128, a0⟩, ⟨S8x128, a1⟩, ⟨S8x128, a2⟩, ⟨S8x128, head3 x y z⟩] concatenates_S8x128_S8x128_S8x128_S8x128_S8x512_d1) := rfl
  rw [hf]
  generalize head3 x y z = a3 at h3 ⊢
  have hc := side_by_side a0 a1 a2 a3 H h0 h1 h2 h3
  generalize concatenate S8x512 1 [⟨S8x128, a0⟩, ⟨S8x128, a1⟩, ⟨S8x128, a2⟩, ⟨S8x128, a3⟩] concatenates_S8x128_S8x128_S8x128_S8x128_S8x512_d1 = A at hc ⊢
  pointwise [mixOf, hc]

theorem hNext_at (hi : ∀ e d, Step.inputs W k v h (ix2 e d) = Spec.inputs (params W) (matK k) (matV v) (matH h) e d)
    (hm : ∀ e, Step.mask W k h (ix2 e 0) = Spec.mask (params W) (matK k) (matH h) e) (e : Fin 8) (j : Fin 128) :
    Step.hNext W k v h c (ix2 e j) = Spec.hNext (params W) (matK k) (matV v) (matH h) (matH c) e j := by
  have hg : matH (Step.hidNew W k v h c) = Spec.hidNew (params W) (matK k) (matV v) (matH h) (matH c) := by
    funext a b; exact hidNew_at W k v h c hi a b
  have hx : matH (query W k v h c) = Spec.blockMul (matH (Step.hidNew W k v h c)) (params W).aq := by funext a b; exact query_at W k v h c a b
  have hy : matH (key W k v h c) = Spec.blockMul (matH (Step.hidNew W k v h c)) (params W).ak := by funext a b; exact key_at W k v h c a b
  have hz : matV8 (value W k v h c) = Spec.blockMul (matH (Step.hidNew W k v h c)) (params W).av := by funext a b; exact value_at W k v h c a b
  unfold Step.hNext
  rw [mix_at W.wo h (Step.mask W k h) (Step.hidNew W k v h c) (query W k v h c) (key W k v h c) (value W k v h c) (head0 W k v h c)
    (head1 W k v h c) (head2 W k v h c) (Spec.heads (matH (query W k v h c)) (matH (key W k v h c)) (matV8 (value W k v h c)))
    (head0_at W k v h c) (head1_at _ _ _) (head2_at _ _ _) (head3_at _ _ _) e j, hm, hidNew_at W k v h c hi, hx, hy, hz, hg]
  rfl

theorem cNext_at (hi : ∀ e d, Step.inputs W k v h (ix2 e d) = Spec.inputs (params W) (matK k) (matV v) (matH h) e d)
    (hm : ∀ e, Step.mask W k h (ix2 e 0) = Spec.mask (params W) (matK k) (matH h) e) (e : Fin 8) (j : Fin 128) :
    Step.cNext W k v h c (ix2 e j) = Spec.cNext (params W) (matK k) (matV v) (matH h) (matH c) e j := by
  have hc := cellNew_at W k v h c hi e j
  unfold Step.cNext
  generalize Step.cellNew W k v h c = x at hc ⊢
  have hme := hm e
  generalize Step.mask W k h = m at hme ⊢
  pointwise [k0_pay60]
  rw [hc, hme]
  rfl

end Cert.KernelIdeal.Entries
end
-- ==== Proof.Picks.lean ====
/- The two greatest of eight scores: what their places in the stable order say, and the kernel's way of finding each by
   the maximum and the least number that attains it. -/
module

public import proofs.«01_k».proof.Proof.Spec
public import Idealize.ShloMosaic.Lib.PlanTiles.StableSort

@[expose] public section

noncomputable section

namespace Cert.Spec

open Idealize.ShloMosaic

/-- How many scores lie below an expert's. -/
def rank (f : Fin 8 → EReal) (e : Fin 8) : ℕ := (Finset.univ.filter fun a => f a < f e).card

theorem rank_lt_iff (f : Fin 8 → EReal) (a b : Fin 8) : rank f b < rank f a ↔ f b < f a := by
  constructor
  · intro hr
    by_contra hn
    refine absurd hr (not_lt.2 (Finset.card_le_card fun x hx => ?_))
    rw [Finset.mem_filter] at hx ⊢
    exact ⟨hx.1, lt_of_lt_of_le hx.2 (not_lt.1 hn)⟩
  · intro hf
    refine Finset.card_lt_card ⟨fun x hx => ?_, fun hs => ?_⟩
    · rw [Finset.mem_filter] at hx ⊢
      exact ⟨hx.1, lt_trans hx.2 hf⟩
    · have := hs (Finset.mem_filter.2 ⟨Finset.mem_univ b, hf⟩)
      exact lt_irrefl _ (Finset.mem_filter.1 this).2

/-- An earlier place holds a greater score, or an equal one of a lower number. -/
theorem pick_lt (f : Fin 8 → EReal) {i j : Fin 8} (hij : i < j) :
    f (pick f j) < f (pick f i) ∨ (f (pick f i) = f (pick f j) ∧ pick f i < pick f j) := by
  have hB : (fun a b : Fin 8 => decide (f b < f a)) = fun a b => decide (rank f b < rank f a) := by
    funext a b; exact decide_eq_decide.2 (rank_lt_iff f a b).symm
  have hp := PlanTiles.pairwise_stableSort_lex (rank f) (· < ·) (List.finRange 8) (List.pairwise_lt_finRange 8)
  rw [← hB] at hp
  have hg := List.pairwise_iff_get.mp hp (i.cast (length_sortPositions 8 _).symm) (j.cast (length_sortPositions 8 _).symm)
    (by simp only [Fin.lt_def, Fin.val_cast]; exact hij)
  have hx : PlanTiles.Lex (rank f) (· < ·) (pick f i) (pick f j) := hg
  rcases hx with h | ⟨h, h'⟩
  · exact Or.inl ((rank_lt_iff f _ _).1 h)
  · refine Or.inr ⟨le_antisymm (not_lt.1 fun hc => ?_) (not_lt.1 fun hc => ?_), h'⟩
    · exact absurd ((rank_lt_iff f _ _).2 hc) (by omega)
    · exact absurd ((rank_lt_iff f _ _).2 hc) (by omega)

theorem pick_surj (f : Fin 8 → EReal) (e : Fin 8) : ∃ r, pick f r = e := sortedFrom_surjective _ e
theorem pick_inj (f : Fin 8 → EReal) {r s : Fin 8} (h : pick f r = pick f s) : r = s := sortedFrom_injective _ h

theorem pick_ne (f : Fin 8 → EReal) : pick f 0 ≠ pick f 1 := fun h => absurd (pick_inj f h) (by decide)

theorem first_max (f : Fin 8 → EReal) (e : Fin 8) : f e ≤ f (pick f 0) := by
  obtain ⟨r, rfl⟩ := pick_surj f e
  rcases Fin.eq_or_lt_of_le (Fin.zero_le r) with rfl | h
  · exact le_rfl
  · rcases pick_lt f h with h | h
    · exact h.le
    · exact h.1.ge

theorem first_least (f : Fin 8 → EReal) (e : Fin 8) (he : e < pick f 0) : f e < f (pick f 0) := by
  obtain ⟨r, rfl⟩ := pick_surj f e
  rcases Fin.eq_or_lt_of_le (Fin.zero_le r) with rfl | h
  · exact absurd he (lt_irrefl _)
  · rcases pick_lt f h with h | h
    · exact h
    · exact absurd he (not_lt.2 h.2.le)

theorem second_max (f : Fin 8 → EReal) (e : Fin 8) (hn : e ≠ pick f 0) : f e ≤ f (pick f 1) := by
  obtain ⟨r, rfl⟩ := pick_surj f e
  have h0 : r ≠ 0 := fun h => hn (by rw [h])
  rcases Fin.eq_or_lt_of_le (show (1 : Fin 8) ≤ r by omega) with rfl | h
  · exact le_rfl
  · rcases pick_lt f h with h | h
    · exact h.le
    · exact h.1.ge

theorem second_least (f : Fin 8 → EReal) (e : Fin 8) (hn : e ≠ pick f 0) (he : e < pick f 1) : f e < f (pick f 1) := by
  obtain ⟨r, rfl⟩ := pick_surj f e
  have h0 : r ≠ 0 := fun h => hn (by rw [h])
  rcases Fin.eq_or_lt_of_le (show (1 : Fin 8) ≤ r by omega) with rfl | h
  · exact absurd he (lt_irrefl _)
  · rcases pick_lt f h with h | h
    · exact h
    · exact absurd he (not_lt.2 h.2.le)

theorem ofBits_neg_inf : Ideal.ofBits .f32 0xFF800000#32 = ⊥ := by simp [Ideal.ofBits, Ideal.ieee]

theorem toInt_minsi (a b : BitVec 32) : (IntOp.minsi a b).toInt = min a.toInt b.toInt := by
  unfold IntOp.minsi
  rw [BitVec.slt_eq_decide]
  by_cases h : a.toInt < b.toInt
  · simp [h, h.le]
  · simp [h, not_lt.1 h]

/-- The least number whose score is the maximum, the way the kernel finds it. -/
theorem least_of_max (g : Fin 8 → EReal) (p : Fin 8) (hmax : ∀ e, g e ≤ g p) (hlt : ∀ e, e < p → g e < g p) :
    Finset.fold IntOp.minsi 2147483647#32
      (fun x : Fin 8 × Fin 1 => if Finset.fold max (Ideal.ofBits .f32 0xFF800000#32) (fun y : Fin 8 × Fin 1 => g y.1) Finset.univ ≤ g x.1
        then BitVec.ofNat 32 x.1.val else 8#32) Finset.univ = BitVec.ofNat 32 p.val := by
  have hM : Finset.fold max (Ideal.ofBits .f32 0xFF800000#32) (fun y : Fin 8 × Fin 1 => g y.1) Finset.univ = g p := by
    apply le_antisymm
    · rw [Finset.fold_max_le, ofBits_neg_inf]
      exact ⟨bot_le, fun x _ => hmax x.1⟩
    · rw [Finset.le_fold_max]
      exact Or.inr ⟨(p, 0), Finset.mem_univ _, le_rfl⟩
  rw [hM]
  apply BitVec.eq_of_toInt_eq
  rw [← Finset.fold_hom (op' := min) (m := BitVec.toInt) toInt_minsi]
  have hv (e : Fin 8) : (BitVec.ofNat 32 e.val).toInt = e.val := by fin_cases e <;> rfl
  have h8 : (8#32 : BitVec 32).toInt = 8 := rfl
  apply le_antisymm
  · rw [Finset.fold_min_le]
    exact Or.inr ⟨(p, 0), Finset.mem_univ _, by simp⟩
  · rw [Finset.le_fold_min]
    refine ⟨?_, fun x _ => ?_⟩
    · rw [hv]; have : (2147483647#32 : BitVec 32).toInt = 2147483647 := rfl
      rw [this]; have := p.isLt; omega
    · by_cases hx : g p ≤ g x.1
      · rw [if_pos hx, hv, hv]
        have : p ≤ x.1 := not_lt.1 fun hc => absurd (hlt _ hc) (not_lt.2 hx)
        exact_mod_cast this
      · rw [if_neg hx, hv, h8]; have := p.isLt; omega

end Cert.Spec
end
-- ==== Proof.KernelIdeal.Selection.lean ====
/- The kernel's selection of the two experts over the extended reals: its two picks are the first two places of the
   stable order, wherever no score is −∞, and the mask, the masked inputs and the two rows a step stores follow. -/
module

public import proofs.«01_k».proof.Proof.KernelIdeal.Entries
public import proofs.«01_k».proof.Proof.Picks

@[expose] public section

set_option maxRecDepth 16384

noncomputable section

namespace Cert.KernelIdeal.Entries

open Idealize.ShloMosaic Idealize.SL.Sem Cert.KernelIdeal Cert.KernelIdeal.Gen Cert.KernelIdeal.Step

variable (W : Weights Ideal) (k : Vec Ideal S1x2x64 .f32) (v : Vec Ideal S1x2x400 .f32) (h c : Vec Ideal S8x128 .f32)

/-- The least expert whose entry is the greatest of a column, from the column and its batch of one. -/
theorem greatest_at (r : FVec Ideal S8x1 .f32) (r3 : FVec Ideal S1x8x1 .f32) (h3 : ∀ e : Fin 8, r3 (ix3 0 e 0) = r (ix2 e 0))
    (p : Fin 8) (hmax : ∀ e : Fin 8, r (ix2 e 0) ≤ r (ix2 p 0)) (hlt : ∀ e : Fin 8, e < p → r (ix2 e 0) < r (ix2 p 0)) :
    extractAt ![0, 0, 0] (k0_pay22 (F := Ideal) rowIds r r3) inpos_S1x1x1_p0_0_0 = BitVec.ofNat 32 p.val := by
  unfold k0_pay22
  have hx (x : IVec S1x1x1 32) : extractAt ![0, 0, 0] x inpos_S1x1x1_p0_0_0 = x (ix3 0 0 0) := by
    unfold extractAt
    congr 1
    funext a; fin_cases a <;> rfl
  rw [hx]
  pointwise [h3, rowIds]
  have hz (y : Fin 8 × Fin 1) : r3 (ix3 0 y.1 y.2) = r (ix2 y.1 0) := by rw [← h3, Subsingleton.elim y.2 0]
  refine Eq.trans ?_ (Spec.least_of_max (fun e => r (ix2 e 0)) p hmax hlt)
  simp only [hz]

/-- The scores against the input's key, as a column and as a batch of one. -/
def column : FVec Ideal S8x1 .f32 :=
  k0_pay18 rowIds (k0_pay10 k) (k0_pay12 (k0_pay3 W.wq) h) (k0_pay13 rowIds (k0_pay3 W.wq) h) (k0_pay14 (k0_pay3 W.wq) h)
    (k0_pay15 rowIds) (k0_pay16 (F := Ideal))
def column3 : FVec Ideal S1x8x1 .f32 := shapeCast S1x8x1 (column W k h) shapeCasts_S8x1_S1x8x1

theorem column_at (e : Fin 8) : column W k h (ix2 e 0) = Spec.scores (params W) (matK k) (matH h) e 0 := by
  refine Eq.trans ?_ (scores_at W k h e 0)
  unfold column k0_pay18 Step.scores
  generalize k0_pay17 (F := Ideal) _ _ _ _ _ _ _ = x
  pointwise []

theorem column3_at (e : Fin 8) : column3 W k h (ix3 0 e 0) = column W k h (ix2 e 0) := by
  unfold column3
  generalize column W k h = x
  pointwise []

theorem pick1_eq : Step.pick1 W k h = extractAt ![0, 0, 0] (k0_pay22 (F := Ideal) rowIds (column W k h) (column3 W k h)) inpos_S1x1x1_p0_0_0 := rfl

theorem pick1_at : Step.pick1 W k h = BitVec.ofNat 32 (Spec.first (params W) (matK k) (matH h)).val := by
  rw [pick1_eq]
  refine greatest_at _ _ (column3_at W k h) _ (fun e => ?_) (fun e he => ?_)
  · rw [column_at, column_at]; exact Spec.first_max (fun e => Spec.scores (params W) (matK k) (matH h) e 0) e
  · rw [column_at, column_at]; exact Spec.first_least (fun e => Spec.scores (params W) (matK k) (matH h) e 0) e he

theorem eq_word (a b : Fin 8) : (BitVec.ofNat 32 a.val = BitVec.ofNat 32 b.val) ↔ a = b := by
  revert a b; decide

theorem rest_eq : Step.rest W k h = select (cmpi .eq rowIds (broadcast S8x1 (Step.pick1 W k h)))
    (broadcast S8x1 (Scalar.ofBits (F := Ideal) .f32 0xFF800000#32)) (column W k h) := rfl

theorem rest_at (e : Fin 8) : Step.rest W k h (ix2 e 0)
    = if e = Spec.first (params W) (matK k) (matH h) then ⊥ else Spec.scores (params W) (matK k) (matH h) e 0 := by
  have hc := column_at W k h e
  rw [rest_eq, pick1_at]
  generalize column W k h = x at hc ⊢
  pointwise [rowIds]
  rw [Spec.ofBits_neg_inf, hc]
  simp only [eq_word, IntOp.cmpi, beq_iff_eq]
  by_cases he : e = Spec.first (params W) (matK k) (matH h)
  · rw [he]; simp [Scalar.select]
  · rw [if_neg he]
    have h2 := (eq_word e (Spec.first (params W) (matK k) (matH h))).not.2 he
    have h3 : (BitVec.ofNat 32 e.val == BitVec.ofNat 32 (Spec.first (params W) (matK k) (matH h)).val) = false := beq_eq_false_iff_ne.2 h2
    rw [h3]; rfl

theorem rest3_at (e : Fin 8) : Step.rest3 W k h (ix3 0 e 0) = Step.rest W k h (ix2 e 0) := by
  unfold Step.rest3 Step.rest k0_pay21
  generalize k0_pay20 (F := Ideal) _ _ _ _ _ _ _ = x
  pointwise []

theorem pick2_at (hb : ∀ e, ⊥ < Spec.scores (params W) (matK k) (matH h) e 0) :
    Step.pick2 W k h = BitVec.ofNat 32 (Spec.second (params W) (matK k) (matH h)).val := by
  have hr := rest_at W k h
  have h3 := rest3_at W k h
  unfold Step.pick2
  generalize Step.rest3 W k h = r3 at h3 ⊢
  generalize Step.rest W k h = r at hr h3 ⊢
  have hne : Spec.second (params W) (matK k) (matH h) ≠ Spec.first (params W) (matK k) (matH h) := (Spec.pick_ne _).symm
  refine greatest_at r r3 h3 _ (fun e => ?_) (fun e he => ?_)
  · rw [hr, hr, if_neg hne]
    by_cases h1 : e = Spec.first (params W) (matK k) (matH h)
    · rw [if_pos h1]; exact bot_le
    · rw [if_neg h1]; exact Spec.second_max (fun e => Spec.scores (params W) (matK k) (matH h) e 0) e h1
  · rw [hr, hr, if_neg hne]
    by_cases h1 : e = Spec.first (params W) (matK k) (matH h)
    · rw [if_pos h1]; exact hb _
    · rw [if_neg h1]; exact Spec.second_least (fun e => Spec.scores (params W) (matK k) (matH h) e 0) e h1 he

theorem sitofp_word (b : Bool) : FloatOps.sitofp (F := Ideal) FTy.f32 (BitVec.setWidth 32 (BitVec.ofBool b)) = if b then 1 else 0 := by
  cases b <;> simp [FloatOps.sitofp]

theorem mask_at (hb : ∀ e, ⊥ < Spec.scores (params W) (matK k) (matH h) e 0) (e : Fin 8) :
    Step.mask W k h (ix2 e 0) = Spec.mask (params W) (matK k) (matH h) e := by
  have h1 := pick1_at W k h
  have h2 := pick2_at W k h hb
  unfold Step.pick2 at h2
  unfold Step.mask k0_pay23
  rw [h1]
  generalize extractAt _ _ _ = q at h2 ⊢
  subst h2
  unfold Spec.mask
  pointwise [rowIds]
  simp only [← eq_word e]
  generalize BitVec.ofNat 32 e.val = x
  generalize BitVec.ofNat 32 _ = y
  generalize BitVec.ofNat 32 _ = z
  have hor : IntOp.ori (IntOp.cmpi .eq x y) (IntOp.cmpi .eq x z) = BitVec.ofBool (x == y || x == z) := by
    simp only [IntOp.ori, IntOp.cmpi]
    cases (x == y) <;> cases (x == z) <;> rfl
  rw [hor, sitofp_word]
  simp only [Bool.or_eq_true, beq_iff_eq]

theorem probs_at (e : Fin 8) (s : Fin 2) : k0_pay24 (Step.scores W k h) (ix2 e s) = Spec.probs (params W) (matK k) (matH h) e s := by
  have hs := scores_at W k h
  unfold Spec.probs Spec.softmax Spec.rowMax
  generalize Step.scores W k h = x at hs ⊢
  pointwise [k0_pay24, hs]

theorem inputs_at (hb : ∀ e, ⊥ < Spec.scores (params W) (matK k) (matH h) e 0) (e : Fin 8) (d : Fin 400) :
    Step.inputs W k v h (ix2 e d) = Spec.inputs (params W) (matK k) (matV v) (matH h) e d := by
  have hp := probs_at W k h
  have hm := mask_at W k h hb
  unfold Step.mask at hm
  unfold Step.inputs Spec.inputs
  pointwise [k0_pay29, k0_pay11, hp, hm]
  rfl

theorem minsi_word (a b : Fin 8) : Scalar.minsi (BitVec.ofNat 32 a.val) (BitVec.ofNat 32 b.val) = BitVec.ofNat 32 (min a b).val := by
  revert a b; decide
theorem maxsi_word (a b : Fin 8) : Scalar.maxsi (BitVec.ofNat 32 a.val) (BitVec.ofNat 32 b.val) = BitVec.ofNat 32 (max a b).val := by
  revert a b; decide

/-- A column's entry at one expert, as the sum of the column with every other entry put to zero. -/
theorem sum_one (f : Fin 8 → EReal) (n : Fin 8) :
    ∑ x : Fin 8 × Fin 1, Scalar.select (IntOp.cmpi .eq (BitVec.ofNat 32 x.1.val) (BitVec.ofNat 32 n.val)) (f x.1) 0 = f n := by
  have hs (e : Fin 8) (a : EReal) : Scalar.select (IntOp.cmpi .eq (BitVec.ofNat 32 e.val) (BitVec.ofNat 32 n.val)) a 0 = if e = n then a else 0 := by
    by_cases he : e = n
    · subst he; simp [Scalar.select, IntOp.cmpi]
    · have h2 : (BitVec.ofNat 32 e.val == BitVec.ofNat 32 n.val) = false := beq_eq_false_iff_ne.2 ((eq_word e n).not.2 he)
      rw [if_neg he]; unfold IntOp.cmpi; rw [h2]; rfl
  simp only [hs]
  rw [Fintype.sum_prod_type]
  simp

theorem lo_at (hb : ∀ e, ⊥ < Spec.scores (params W) (matK k) (matH h) e 0) :
    Scalar.minsi (Step.pick1 W k h) (Step.pick2 W k h) = BitVec.ofNat 32 (Spec.lo (params W) (matK k) (matH h)).val := by
  rw [pick1_at, pick2_at W k h hb, minsi_word]; rfl
theorem hi_at (hb : ∀ e, ⊥ < Spec.scores (params W) (matK k) (matH h) e 0) :
    Scalar.maxsi (Step.pick1 W k h) (Step.pick2 W k h) = BitVec.ofNat 32 (Spec.hi (params W) (matK k) (matH h)).val := by
  rw [pick1_at, pick2_at W k h hb, maxsi_word]; rfl

/-- A column's entry at expert `n`, as the kernel takes it out. -/
def entryOf (n : BitVec 32) (x : FVec Ideal S8x1 .f32) : EReal :=
  extractAt ![0, 0, 0] (shapeCast S1x1x1 (multiReduction .add [1, 2] S1 (shapeCast S1x8x1
    (select (cmpi .eq rowIds (broadcast S8x1 n)) x (broadcast S8x1 (Scalar.ofBits (F := Ideal) .f32 0x00000000#32)))
    shapeCasts_S8x1_S1x8x1) 0x00000000#32 reduces_S1x8x1_S1 (.inl rfl) rfl) shapeCasts_S1_S1x1x1) inpos_S1x1x1_p0_0_0

theorem entryOf_at (x : FVec Ideal S8x1 .f32) (n : Fin 8) : entryOf (BitVec.ofNat 32 n.val) x = x (ix2 n 0) := by
  unfold entryOf
  have hx (x : FVec Ideal S1x1x1 .f32) : extractAt ![0, 0, 0] x inpos_S1x1x1_p0_0_0 = x (ix3 0 0 0) := by
    unfold extractAt
    congr 1
    funext a; fin_cases a <;> rfl
  rw [hx]
  pointwise [rowIds]
  refine Eq.trans ?_ (sum_one (fun e => x (ix2 e 0)) n)
  rw [Fintype.sum_prod_type]

theorem firstProbs_at (e : Fin 8) : k0_pay25 (Step.scores W k h) (ix2 e 0) = Spec.probs (params W) (matK k) (matH h) e 0 := by
  have hp := probs_at W k h
  unfold k0_pay25
  generalize k0_pay24 (F := Ideal) _ = x at hp ⊢
  pointwise [hp]

theorem pay26_at (hb : ∀ e, ⊥ < Spec.scores (params W) (matK k) (matH h) e 0) :
    k0_pay26 (F := Ideal) rowIds (Step.scores W k h) (Step.pick1 W k h) (Step.rest W k h) (Step.rest3 W k h)
      = Spec.probs (params W) (matK k) (matH h) (Spec.lo (params W) (matK k) (matH h)) 0 := by
  have he : k0_pay26 (F := Ideal) rowIds (Step.scores W k h) (Step.pick1 W k h) (Step.rest W k h) (Step.rest3 W k h)
    = entryOf (Scalar.minsi (Step.pick1 W k h) (Step.pick2 W k h)) (k0_pay25 (Step.scores W k h)) := rfl
  rw [he, lo_at W k h hb, entryOf_at, firstProbs_at]

theorem pay27_at (hb : ∀ e, ⊥ < Spec.scores (params W) (matK k) (matH h) e 0) :
    k0_pay27 (F := Ideal) rowIds (Step.scores W k h) (Step.pick1 W k h) (Step.rest W k h) (Step.rest3 W k h)
      = Spec.probs (params W) (matK k) (matH h) (Spec.hi (params W) (matK k) (matH h)) 0 := by
  have he : k0_pay27 (F := Ideal) rowIds (Step.scores W k h) (Step.pick1 W k h) (Step.rest W k h) (Step.rest3 W k h)
    = entryOf (Scalar.maxsi (Step.pick1 W k h) (Step.pick2 W k h)) (k0_pay25 (Step.scores W k h)) := rfl
  rw [he, hi_at W k h hb, entryOf_at, firstProbs_at]

/-- The row of routing weights has the lower expert's share first, the higher's second. -/
theorem weightRow_at (hb : ∀ e, ⊥ < Spec.scores (params W) (matK k) (matH h) e 0) (i : Fin 2) :
    Step.weightRow W k h (ix2 0 ⟨i.val, by omega⟩) = Spec.weight (params W) (matK k) (matH h) i := by
  unfold Step.weightRow Spec.weight k0_pay28
  rw [pay26_at W k h hb, pay27_at W k h hb]
  fin_cases i <;> pointwise [k0_pay61, laneIds] <;> rfl

/-- The row of experts has the lower pick first, the higher second. -/
theorem expertRow_at (hb : ∀ e, ⊥ < Spec.scores (params W) (matK k) (matH h) e 0) (i : Fin 2) :
    Step.expertRow W k h (ix2 0 ⟨i.val, by omega⟩) = Spec.expert (params W) (matK k) (matH h) i := by
  unfold Step.expertRow Spec.expert
  rw [lo_at W k h hb, hi_at W k h hb]
  fin_cases i <;> pointwise [k0_pay7] <;> rfl

end Cert.KernelIdeal.Entries
end
-- ==== Proof.Reals.lean ====
/- Where the step's inputs are real numbers, its state and its scores are: so no score is −∞ at any step. The gates need
   nothing of this, being between −1 and 1 whatever they are given. -/
module

public import proofs.«01_k».proof.Proof.Picks

@[expose] public section

noncomputable section

namespace Cert.Spec

open Idealize.ShloMosaic

/-- An extended real that is a real number. -/
def Real' (x : EReal) : Prop := ∃ r : ℝ, x = r

theorem real_zero : Real' 0 := ⟨0, rfl⟩
theorem real_one : Real' 1 := ⟨1, rfl⟩

theorem real_add {x y : EReal} (hx : Real' x) (hy : Real' y) : Real' (x + y) := by
  obtain ⟨a, rfl⟩ := hx; obtain ⟨b, rfl⟩ := hy
  exact ⟨a + b, (EReal.coe_add a b).symm⟩

theorem real_sub {x y : EReal} (hx : Real' x) (hy : Real' y) : Real' (x - y) := by
  obtain ⟨a, rfl⟩ := hx; obtain ⟨b, rfl⟩ := hy
  exact ⟨a - b, (EReal.coe_sub a b).symm⟩

theorem real_mul {x y : EReal} (hx : Real' x) (hy : Real' y) : Real' (x * y) := by
  obtain ⟨a, rfl⟩ := hx; obtain ⟨b, rfl⟩ := hy
  exact ⟨a * b, (EReal.coe_mul a b).symm⟩

theorem real_sum {ι : Type} (t : Finset ι) (f : ι → EReal) (h : ∀ i, Real' (f i)) : Real' (∑ i ∈ t, f i) := by
  classical
  induction t using Finset.induction_on with
  | empty => exact real_zero
  | insert a t ha ih => rw [Finset.sum_insert ha]; exact real_add (h a) ih

theorem real_div {x y : EReal} (hx : Real' x) (hy : Real' y) (h0 : y ≠ 0) : Real' (Ideal.div x y) := by
  obtain ⟨b, rfl⟩ := hy
  rw [Ideal.div_coe (by rintro rfl; exact h0 rfl)]
  exact real_mul hx ⟨_, rfl⟩

theorem real_tanh (x : EReal) : Real' (Ideal.tanh x) := by
  induction x using EReal.rec with
  | bot => exact ⟨-1, by show (-1 : EReal) = _; simp⟩
  | top => exact ⟨1, by show (1 : EReal) = _; simp⟩
  | coe r => exact ⟨_, Ideal.tanh_coe r⟩

theorem real_logistic (x : EReal) : Real' (Ideal.logistic x) := by
  induction x using EReal.rec with
  | bot =>
    have h : Ideal.exp (-⊥) = ⊤ := by rw [EReal.neg_bot]; rfl
    exact ⟨0, by rw [Ideal.logistic, h, show (1 : EReal) + ⊤ = ⊤ from EReal.coe_add_top 1]; simp [Ideal.div]⟩
  | top =>
    have h : Ideal.exp (-⊤) = 0 := by rw [EReal.neg_top]; rfl
    exact ⟨1, by rw [Ideal.logistic, h]; simp [Ideal.div]⟩
  | coe r => exact ⟨_, Ideal.logistic_coe r⟩

theorem real_rowMax {m : ℕ} (x : Fin (m + 1) → EReal) (h : ∀ i, Real' (x i)) : Real' (rowMax x) := by
  unfold rowMax
  rw [ofBits_neg_inf]
  have h1 : ∀ t : Finset (Fin (m + 1)), Finset.fold max ⊥ x t = ⊥ ∨ Real' (Finset.fold max ⊥ x t) := by
    intro t
    classical
    induction t using Finset.induction_on with
    | empty => exact Or.inl rfl
    | insert a t ha ih =>
      rw [Finset.fold_insert ha]
      rcases max_choice (x a) (Finset.fold max ⊥ x t) with e | e
      · rw [e]; exact Or.inr (h a)
      · rw [e]; exact ih
  rcases h1 Finset.univ with e | e
  · have h2 : x 0 ≤ Finset.fold max ⊥ x Finset.univ := by
      rw [Finset.le_fold_max]; exact Or.inr ⟨0, Finset.mem_univ _, le_rfl⟩
    rw [e] at h2
    obtain ⟨r, hr⟩ := h 0
    rw [hr] at h2
    exact absurd h2 (not_le.2 (EReal.bot_lt_coe r))
  · exact e

theorem coe_sum {ι : Type} (s : Finset ι) (r : ι → ℝ) : ((∑ j ∈ s, r j : ℝ) : EReal) = ∑ j ∈ s, (r j : EReal) := by
  classical
  induction s using Finset.induction_on with
  | empty => simp
  | insert a s ha ih => rw [Finset.sum_insert ha, Finset.sum_insert ha, EReal.coe_add, ih]

theorem real_softmax {m : ℕ} (x : Fin (m + 1) → EReal) (h : ∀ i, Real' (x i)) (i : Fin (m + 1)) : Real' (softmax x i) := by
  unfold softmax
  obtain ⟨M, hM⟩ := real_rowMax x h
  rw [hM]
  have he (j : Fin (m + 1)) : ∃ r : ℝ, 0 < r ∧ Ideal.exp (x j - M) = r := by
    obtain ⟨a, ha⟩ := h j
    exact ⟨Real.exp (a - M), Real.exp_pos _, by rw [ha, ← EReal.coe_sub, Ideal.exp_coe]⟩
  choose r hr hx using he
  have hs : ∑ j, Ideal.exp (x j - M) = ((∑ j, r j : ℝ) : EReal) := by
    rw [coe_sum]; exact Finset.sum_congr rfl fun j _ => hx j
  rw [hs]
  refine real_div ⟨_, hx i⟩ ⟨_, rfl⟩ ?_
  have : 0 < ∑ j, r j := Finset.sum_pos (fun j _ => hr j) Finset.univ_nonempty
  intro hc
  exact this.ne' (EReal.coe_eq_zero.1 hc)

theorem eight_bits : Ideal.ofBits .f32 0x41000000#32 = ((8 : ℝ) : EReal) := by
  simp [Ideal.ofBits, Ideal.ieee, -EReal.coe_mul]; norm_num

theorem scale_bits : ∃ r : ℝ, r ≠ 0 ∧ Ideal.ofBits .f32 0x40B504F3#32 = (r : EReal) := by
  refine ⟨_, ?_, by simp [Ideal.ofBits, Ideal.ieee, -EReal.coe_mul]; rfl⟩
  norm_num

theorem real_block {n m : ℕ} (x : Mat 8 n) (w : Fin 8 → Mat n m) (hx : ∀ e d, Real' (x e d)) (hw : ∀ e d j, Real' (w e d j)) (e : Fin 8) (j : Fin m) :
    Real' (blockMul x w e j) := real_sum _ _ fun d => real_mul (hx e d) (hw e d j)

variable (p : Params) (K : Mat 2 64) (V : Mat 2 400) (h c : Mat 8 128)

theorem real_scores (hq : ∀ e d j, Real' (p.q e d j)) (hK : ∀ a j, Real' (K a j)) (hh : ∀ e j, Real' (h e j)) (e : Fin 8) (a : Fin 2) :
    Real' (scores p K h e a) := by
  unfold scores
  rw [eight_bits]
  exact real_div (real_sum _ _ fun k => real_mul (real_block _ _ hh hq e k) (hK a k)) ⟨_, rfl⟩ (by
    intro hc; exact absurd (EReal.coe_eq_zero.1 hc) (by norm_num))

theorem scores_above (hq : ∀ e d j, Real' (p.q e d j)) (hK : ∀ a j, Real' (K a j)) (hh : ∀ e j, Real' (h e j)) (e : Fin 8) :
    ⊥ < scores p K h e 0 := by
  obtain ⟨r, hr⟩ := real_scores p K h hq hK hh e 0
  rw [hr]; exact EReal.bot_lt_coe r

theorem real_hidNew (e : Fin 8) (j : Fin 128) : Real' (hidNew p K V h c e j) :=
  real_mul (real_logistic _) (real_tanh _)

theorem real_mask (e : Fin 8) : Real' (mask p K h e) := by
  unfold mask; split
  · exact real_one
  · exact real_zero

theorem real_att (x y : Mat 8 128) (hx : ∀ e j, Real' (x e j)) (hy : ∀ e j, Real' (y e j)) (a : Fin 4) (i j : Fin 8) : Real' (att x y a i j) := by
  unfold att
  refine real_softmax _ (fun j => ?_) j
  obtain ⟨r, h0, hr⟩ := scale_bits
  rw [hr]
  exact real_div (real_sum _ _ fun d => real_mul (hx _ _) (hy _ _)) ⟨_, rfl⟩ (by
    intro hc; exact h0 (EReal.coe_eq_zero.1 hc))

theorem real_comm (g : Mat 8 128) (hg : ∀ e j, Real' (g e j)) (h1 : ∀ e d j, Real' (p.aq e d j)) (h2 : ∀ e d j, Real' (p.ak e d j))
    (h3 : ∀ e d j, Real' (p.av e d j)) (h4 : ∀ e d j, Real' (p.o e d j)) (e : Fin 8) (j : Fin 128) : Real' (comm p g e j) := by
  unfold comm
  refine real_block _ _ (fun e d => ?_) h4 e j
  unfold heads
  exact real_sum _ _ fun i => real_mul (real_att _ _ (real_block _ _ hg h1) (real_block _ _ hg h2) _ _ _) (real_block _ _ hg h3 _ _)

/-- The next state is real where the state and the attention's weights are. -/
theorem real_hNext (hh : ∀ e j, Real' (h e j)) (h1 : ∀ e d j, Real' (p.aq e d j)) (h2 : ∀ e d j, Real' (p.ak e d j))
    (h3 : ∀ e d j, Real' (p.av e d j)) (h4 : ∀ e d j, Real' (p.o e d j)) (e : Fin 8) (j : Fin 128) : Real' (hNext p K V h c e j) := by
  unfold hNext
  exact real_add (real_mul (real_mask _ _ _ _) (real_add (real_comm p _ (real_hidNew p K V h c) h1 h2 h3 h4 e j) (real_hidNew _ _ _ _ _ _ _)))
    (real_mul (real_sub real_one (real_mask _ _ _ _)) (hh e j))

end Cert.Spec
end
-- ==== Proof.Sequence.lean ====
/- The recurrence over all steps: the arguments as matrices, each step's keys and values projected from its row of the
   input, the carried state before each step, and the two results of each step. Where the arguments that matter are real
   numbers, the scores of every step stay above −∞. -/
module

public import proofs.«01_k».proof.Proof.Reals

@[expose] public section

noncomputable section

namespace Cert.Spec

open Idealize.ShloMosaic

/-- The arguments. -/
structure Data where
  p : Params
  x : Mat 2048 1024
  wk : Mat 1024 64
  bk : Fin 64 → EReal
  wv : Mat 1024 400
  bv : Fin 400 → EReal
  h : Mat 8 128
  c : Mat 8 128

/-- A row and the row of zeros through a matrix, a bias added. -/
def projected {m : ℕ} (x : Fin 1024 → EReal) (w : Mat 1024 m) (b : Fin m → EReal) : Mat 2 m := fun s j =>
  (∑ d : Fin 1024, (if s.val < 1 then x d else 0) * w d j) + b j

namespace Data

variable (d : Data)

/-- The row of the input that step `n` reads, and the step's keys and values. -/
def row (n : ℕ) : Fin 1024 → EReal := d.x ⟨n % 2048, Nat.mod_lt _ (by decide)⟩
def K (n : ℕ) : Mat 2 64 := projected (d.row n) d.wk d.bk
def V (n : ℕ) : Mat 2 400 := projected (d.row n) d.wv d.bv
/-- The carried state before step `n`. -/
def state : ℕ → Mat 8 128 × Mat 8 128
  | 0 => (d.h, d.c)
  | n + 1 => (hNext d.p (d.K n) (d.V n) (state n).1 (state n).2, cNext d.p (d.K n) (d.V n) (state n).1 (state n).2)
/-- The results of step `n`. -/
def weights (n : ℕ) (i : Fin 2) : EReal := Spec.weight d.p (d.K n) (d.state n).1 i
def experts (n : ℕ) (i : Fin 2) : BitVec 32 := Spec.expert d.p (d.K n) (d.state n).1 i

/-- The arguments the scores depend on are real numbers. -/
structure IsReal : Prop where
  x : ∀ n j, Real' (d.x n j)
  wk : ∀ n j, Real' (d.wk n j)
  bk : ∀ j, Real' (d.bk j)
  h : ∀ e j, Real' (d.h e j)
  q : ∀ e n j, Real' (d.p.q e n j)
  aq : ∀ e n j, Real' (d.p.aq e n j)
  ak : ∀ e n j, Real' (d.p.ak e n j)
  av : ∀ e n j, Real' (d.p.av e n j)
  o : ∀ e n j, Real' (d.p.o e n j)

variable {d}

theorem IsReal.K (hd : d.IsReal) (n : ℕ) (a : Fin 2) (j : Fin 64) : Real' (d.K n a j) := by
  refine real_add (real_sum _ _ fun i => real_mul ?_ (hd.wk i j)) (hd.bk j)
  split
  · exact hd.x _ i
  · exact real_zero

theorem IsReal.state (hd : d.IsReal) : ∀ n e j, Real' ((d.state n).1 e j)
  | 0 => hd.h
  | n + 1 => real_hNext _ _ _ _ _ (hd.state n) hd.aq hd.ak hd.av hd.o

theorem IsReal.above (hd : d.IsReal) (n : ℕ) (e : Fin 8) : ⊥ < scores d.p (d.K n) (d.state n).1 e 0 :=
  scores_above _ _ _ hd.q (hd.K n) (hd.state n) e

end Data

/-- The arguments' matrices, off the argument arrays. -/
def data (a0 : Shape.Idx ⟨3, ![1, 2048, 1024]⟩ → EReal) (a1 a2 : Shape.Idx ⟨3, ![1, 8, 128]⟩ → EReal)
    (a3 : Shape.Idx ⟨2, ![1024, 64]⟩ → EReal) (a4 : Shape.Idx ⟨1, ![64]⟩ → EReal)
    (a5 : Shape.Idx ⟨2, ![1024, 400]⟩ → EReal) (a6 : Shape.Idx ⟨1, ![400]⟩ → EReal)
    (a7 : Shape.Idx ⟨3, ![8, 128, 64]⟩ → EReal) (a8 : Shape.Idx ⟨3, ![8, 400, 512]⟩ → EReal)
    (a9 : Shape.Idx ⟨3, ![8, 128, 512]⟩ → EReal) (a10 a11 : Shape.Idx ⟨3, ![8, 128, 128]⟩ → EReal)
    (a12 : Shape.Idx ⟨3, ![8, 128, 512]⟩ → EReal) (a13 : Shape.Idx ⟨3, ![8, 512, 128]⟩ → EReal) : Data where
  p :=
    { q := fun e i j => a7 (ix3 e i j), i := fun e i j => a8 (ix3 e i j), r := fun e i j => a9 (ix3 e i j),
      aq := fun e i j => a10 (ix3 e i j), ak := fun e i j => a11 (ix3 e i j), av := fun e i j => a12 (ix3 e i j),
      o := fun e i j => a13 (ix3 e i j) }
  x n j := a0 (ix3 0 n j)
  wk i j := a3 (ix2 i j)
  bk j := a4 (ix1 j)
  wv i j := a5 (ix2 i j)
  bv j := a6 (ix1 j)
  h e j := a1 (ix3 0 e j)
  c e j := a2 (ix3 0 e j)

end Cert.Spec

end
-- ==== Proof.KernelIdeal.Results.lean ====
/- The kernel's results over all steps: the loop before the region projects every row of the input, the region reads the
   laid-out weights back by expert, and the two result arrays are the recurrence's, row by row. -/
module

public import proofs.«01_k».proof.Proof.KernelIdeal.Host
public import proofs.«01_k».proof.Proof.KernelIdeal.Blocks
public import proofs.«01_k».proof.Proof.KernelIdeal.Selection
public import proofs.«01_k».proof.Proof.Sequence

@[expose] public section

set_option maxRecDepth 16384

noncomputable section

namespace Cert.KernelIdeal.Results

open Idealize.ShloMosaic Idealize.ShloMosaic.TcCoe Idealize.ShloMosaic.StableHlo Idealize.SL.Sem
open Cert.KernelIdeal Cert.KernelIdeal.Gen Cert.KernelIdeal.Run Cert.KernelIdeal.Entries
open Cert.KernelIdeal.Region (wts keyOf valueOf carried weights_array experts_array)

/-! ## One trip of the loop before the region -/

section
variable (n : ℕ) (hn : n < 2048)

/-- The counter of trip `n`. -/
abbrev counter : IVec S_ 32 := fun _ => Scf.iv 0#32 1#32 n
include hn in
theorem counter_toInt : (Scf.iv 0#32 1#32 n : BitVec 32).toInt = n := by
  rw [show (Scf.iv 0#32 1#32 n : BitVec 32) = BitVec.ofNat 32 n by unfold Scf.iv; simp]
  exact toInt_ofNat_of_lt (by omega)

theorem row_at (x : FVec Ideal S2048x1x1024 .f32) (d : Fin 1024) : rowAt x (counter n) (ix2 0 d) = x (ix3 ⟨n, hn⟩ 0 d) := by
  have h := Rows.slice3 (w := 1024) x
    (fun k => ((![counter n, constantI S_ 32 0#32, constantI S_ 32 0#32] : Fin 3 → IVec S_ 32) k (Shape.Idx.first h_S_)).toInt) sliceFits_S2048x1x1024_S1x1x1024 n hn
    (counter_toInt n hn) rfl rfl d
  unfold rowAt
  rw [← h]
  generalize Host.dynamicSlice _ x _ _ = y
  pointwise

theorem both_at (r : FVec Ideal S1x1024 .f32) (a : Fin 2) (d : Fin 1024) : both r (ix3 0 a d) = if a.val < 1 then r (ix2 0 d) else 0 := by
  pointwise [both]
  exact dite_eq_ite

theorem keys_at (r : FVec Ideal S1x1024 .f32) (w : FVec Ideal S1024x64 .f32) (b : FVec Ideal S64 .f32) (a : Fin 2) (j : Fin 64) :
    keys r w b (ix2 a j) = Spec.projected (fun d => r (ix2 0 d)) (fun d k => w (ix2 d k)) (fun k => b (ix1 k)) a j := by
  have hb := both_at r
  unfold keys Spec.projected
  generalize both r = x at hb ⊢
  pointwise [hb]
theorem values_at (r : FVec Ideal S1x1024 .f32) (w : FVec Ideal S1024x400 .f32) (b : FVec Ideal S400 .f32) (a : Fin 2) (j : Fin 400) :
    values r w b (ix2 a j) = Spec.projected (fun d => r (ix2 0 d)) (fun d k => w (ix2 d k)) (fun k => b (ix1 k)) a j := by
  have hb := both_at r
  unfold values Spec.projected
  generalize both r = x at hb ⊢
  pointwise [hb]

include hn in
theorem putKeys_at (x : FVec Ideal S2048x2x64 .f32) (u : FVec Ideal S2x64 .f32) (r : Fin 2048) (i : Fin 2) (j : Fin 64) :
    putKeys x u (counter n) (ix3 r i j) = if r.val = n then u (ix2 i j) else x (ix3 r i j) := by
  have hu : (broadcastInDim S1x2x64 ![1, 2] bcast_S2x64_S1x2x64_1_2 u) (ix3 0 i j) = u (ix2 i j) := by pointwise
  rw [← hu]
  exact Rows.update3 (w := 64) x _ _ updateFits_S2048x2x64_S1x2x64 n hn (counter_toInt n hn) rfl rfl r i j
include hn in
theorem putValues_at (x : FVec Ideal S2048x2x400 .f32) (u : FVec Ideal S2x400 .f32) (r : Fin 2048) (i : Fin 2) (j : Fin 400) :
    putValues x u (counter n) (ix3 r i j) = if r.val = n then u (ix2 i j) else x (ix3 r i j) := by
  have hu : (broadcastInDim S1x2x400 ![1, 2] bcast_S2x400_S1x2x400_1_2 u) (ix3 0 i j) = u (ix2 i j) := by pointwise
  rw [← hu]
  exact Rows.update3 (w := 400) x _ _ updateFits_S2048x2x400_S1x2x400 n hn (counter_toInt n hn) rfl rfl r i j
theorem tripKeys_at (x : FVec Ideal S2048x2x64 .f32) (y : FVec Ideal S2048x1x1024 .f32) (w : FVec Ideal S1024x64 .f32) (b : FVec Ideal S64 .f32)
    (row : Fin 1024 → EReal) (hy : ∀ d, y (ix3 ⟨n, hn⟩ 0 d) = row d) (r : Fin 2048) (i : Fin 2) (j : Fin 64) :
    putKeys x (keys (rowAt y (counter n)) w b) (counter n) (ix3 r i j)
      = if r.val = n then Spec.projected row (fun d k => w (ix2 d k)) (fun k => b (ix1 k)) i j else x (ix3 r i j) := by
  rw [putKeys_at n hn, keys_at]
  simp only [row_at n hn, hy]
theorem tripValues_at (x : FVec Ideal S2048x2x400 .f32) (y : FVec Ideal S2048x1x1024 .f32) (w : FVec Ideal S1024x400 .f32) (b : FVec Ideal S400 .f32)
    (row : Fin 1024 → EReal) (hy : ∀ d, y (ix3 ⟨n, hn⟩ 0 d) = row d) (r : Fin 2048) (i : Fin 2) (j : Fin 400) :
    putValues x (values (rowAt y (counter n)) w b) (counter n) (ix3 r i j)
      = if r.val = n then Spec.projected row (fun d k => w (ix2 d k)) (fun k => b (ix1 k)) i j else x (ix3 r i j) := by
  rw [putValues_at n hn, values_at]
  simp only [row_at n hn, hy]
end

/-! ## The arguments, the projected rows and the weights at the region's entry -/

variable (m : (ℓ : Loc nD τ sig) → Buf (Elt Ideal) ℓ) (ρ : Dev nD → PrngReg) (c : Dev nD)

/-- The arguments as matrices. -/
def dataOf : Spec.Data :=
  Spec.data (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

theorem input_at (n : ℕ) (hn : n < 2048) (d : Fin 1024) :
    (W1 m ρ c (Proc.devRef .tc main_v3_0) : FVec Ideal S2048x1x1024 .f32) (ix3 ⟨n, hn⟩ 0 d) = (dataOf m c).row n d := by
  rw [show W1 m ρ c (Proc.devRef .tc main_v3_0) = _ from entry_input (W0 m ρ c)]
  unfold Spec.Data.row
  simp only [Nat.mod_eq_of_lt hn]
  show _ = (m ((c.tc : Thread nD τ).loc main_arg0) : FVec Ideal S1x2048x1024 .f32) (ix3 0 ⟨n, hn⟩ d)
  show transpose S2048x1x1024 [1, 0, 2] (m ((c.tc : Thread nD τ).loc main_arg0) : FVec Ideal S1x2048x1024 .f32) _ _ = _
  pointwise

/-- After `k` trips the first `k` rows are projected. -/
theorem keys_rows : ∀ k, k ≤ 2048 → ∀ r : Fin 2048, r.val < k → ∀ (i : Fin 2) (j : Fin 64),
    (Wk m ρ k c (Proc.devRef .tc main_v3_7) : FVec Ideal S2048x2x64 .f32) (ix3 r i j) = (dataOf m c).K r.val i j
  | 0, _ => fun _ hr => absurd hr (Nat.not_lt_zero _)
  | k + 1, hk => fun r hr i j => by
    rw [show Wk m ρ (k + 1) c (Proc.devRef .tc main_v3_7) = _ from trip_keys (Wk m ρ k c), atK_ctr,
      Wk_kept m ρ c main_v3_0 (by decide +kernel), Wk_kept m ρ c main_v3_2 (by decide +kernel), Wk_kept m ρ c main_v3_3 (by decide +kernel),
      show W1 m ρ c (Proc.devRef .tc main_v3_2) = _ from entry_wk (W0 m ρ c), show W1 m ρ c (Proc.devRef .tc main_v3_3) = _ from entry_bk (W0 m ρ c)]
    refine (tripKeys_at k hk _ _ _ _ ((dataOf m c).row k) (input_at m ρ c k hk) r i j).trans ?_
    split
    · next he => rw [he]; rfl
    · exact keys_rows k (by omega) r (by omega) i j
theorem values_rows : ∀ k, k ≤ 2048 → ∀ r : Fin 2048, r.val < k → ∀ (i : Fin 2) (j : Fin 400),
    (Wk m ρ k c (Proc.devRef .tc main_v3_8) : FVec Ideal S2048x2x400 .f32) (ix3 r i j) = (dataOf m c).V r.val i j
  | 0, _ => fun _ hr => absurd hr (Nat.not_lt_zero _)
  | k + 1, hk => fun r hr i j => by
    rw [show Wk m ρ (k + 1) c (Proc.devRef .tc main_v3_8) = _ from trip_values (Wk m ρ k c), atK_ctr,
      Wk_kept m ρ c main_v3_0 (by decide +kernel), Wk_kept m ρ c main_v3_4 (by decide +kernel), Wk_kept m ρ c main_v3_5 (by decide +kernel),
      show W1 m ρ c (Proc.devRef .tc main_v3_4) = _ from entry_wv (W0 m ρ c), show W1 m ρ c (Proc.devRef .tc main_v3_5) = _ from entry_bv (W0 m ρ c)]
    refine (tripValues_at k hk _ _ _ _ ((dataOf m c).row k) (input_at m ρ c k hk) r i j).trans ?_
    split
    · next he => rw [he]; rfl
    · exact values_rows k (by omega) r (by omega) i j

/-- The keys and values the region's step `n` reads. -/
theorem keyOf_eq (n : ℕ) (hn : n < 2048) : matK (keyOf (V3 m ρ) c n) = (dataOf m c).K n := by
  funext i j
  have h := keys_rows m ρ c 2048 le_rfl ⟨n, hn⟩ hn i j
  rw [← W2_of m ρ c main_v3_7 (by decide +kernel), ← W3_of m ρ c main_v3_7 (by decide +kernel)] at h
  unfold matK keyOf
  simp only [Nat.mod_eq_of_lt hn]
  exact h
theorem valueOf_eq (n : ℕ) (hn : n < 2048) : matV (valueOf (V3 m ρ) c n) = (dataOf m c).V n := by
  funext i j
  have h := values_rows m ρ c 2048 le_rfl ⟨n, hn⟩ hn i j
  rw [← W2_of m ρ c main_v3_8 (by decide +kernel), ← W3_of m ρ c main_v3_8 (by decide +kernel)] at h
  unfold matV valueOf
  simp only [Nat.mod_eq_of_lt hn]
  exact h

/-- Before the weights are laid out every argument is as launched. -/
theorem W2_args : ∀ a ∈ argRefs, W2 m ρ c (Proc.devRef .tc a) = m ((c : Thread nD τ).loc a) := fun a ha =>
  (W2_kept m ρ c a (args_kept a ha)).trans ((W1_of m ρ c a (hostOps0_args a ha)).trans (W0_args m ρ c a ha))

section
theorem q_at (x : FVec Ideal S8x128x64 .f32) (e : Fin 8) (d : Fin 128) (j : Fin 64) :
    shapeCast S128x512 (transpose S128x8x64 [1, 0, 2] x transposes_S8x128x64_S128x8x64_1_0_2) shapeCasts_S128x8x64_S128x512
      (ix2 d ⟨64 * e.val + j.val, by omega⟩) = x (ix3 e d j) := by
  pointwise
theorem i_at (x : FVec Ideal S8x400x512 .f32) (e : Fin 8) (d : Fin 400) (j : Fin 512) :
    shapeCast S400x4096 (transpose S400x8x512 [1, 0, 2] x transposes_S8x400x512_S400x8x512_1_0_2) shapeCasts_S400x8x512_S400x4096
      (ix2 d ⟨512 * e.val + j.val, by omega⟩) = x (ix3 e d j) := by
  pointwise
theorem r_at (x : FVec Ideal S8x128x512 .f32) (e : Fin 8) (d : Fin 128) (j : Fin 512) :
    shapeCast S128x4096 (transpose S128x8x512 [1, 0, 2] x transposes_S8x128x512_S128x8x512_1_0_2) shapeCasts_S128x8x512_S128x4096
      (ix2 d ⟨512 * e.val + j.val, by omega⟩) = x (ix3 e d j) := by
  pointwise
theorem a_at (x : FVec Ideal S8x128x128 .f32) (e : Fin 8) (d : Fin 128) (j : Fin 128) :
    shapeCast S128x1024 (transpose S128x8x128 [1, 0, 2] x transposes_S8x128x128_S128x8x128_1_0_2) shapeCasts_S128x8x128_S128x1024
      (ix2 d ⟨128 * e.val + j.val, by omega⟩) = x (ix3 e d j) := by
  pointwise
variable (q k : FVec Ideal S8x128x128 .f32) (v : FVec Ideal S8x128x512 .f32) (e : Fin 8) (d : Fin 128)
theorem side_q (j : Fin 128) : sideBySide q k v (ix2 d ⟨128 * e.val + j.val, by omega⟩) = q (ix3 e d j) := by
  rw [← a_at q e d j]
  unfold sideBySide
  generalize shapeCast S128x1024 (transpose S128x8x128 [1, 0, 2] q _) _ = x
  pointwise
  exact dif_pos (by omega)
theorem side_k (j : Fin 128) : sideBySide q k v (ix2 d ⟨1024 + (128 * e.val + j.val), by omega⟩) = k (ix3 e d j) := by
  rw [← a_at k e d j]
  unfold sideBySide
  generalize shapeCast S128x1024 (transpose S128x8x128 [1, 0, 2] k _) _ = x
  pointwise
  exact dif_pos (by omega)
theorem side_v (j : Fin 512) : sideBySide q k v (ix2 d ⟨2048 + (512 * e.val + j.val), by omega⟩) = v (ix3 e d j) := by
  rw [← r_at v e d j]
  unfold sideBySide
  generalize shapeCast S128x4096 (transpose S128x8x512 [1, 0, 2] v _) _ = x
  pointwise
  rw [dif_neg (by omega), dif_neg (by omega)]
  have hj : 2048 + (512 * e.val + j.val) - 1024 - 1024 = 512 * e.val + j.val := by omega
  simp only [hj]
end

theorem params_laid (a7 : FVec Ideal S8x128x64 .f32) (a8 : FVec Ideal S8x400x512 .f32) (a9 a12 : FVec Ideal S8x128x512 .f32)
    (a10 a11 : FVec Ideal S8x128x128 .f32) (a13 : FVec Ideal S8x512x128 .f32) :
    params ⟨shapeCast S128x512 (transpose S128x8x64 [1, 0, 2] a7 transposes_S8x128x64_S128x8x64_1_0_2) shapeCasts_S128x8x64_S128x512,
        shapeCast S400x4096 (transpose S400x8x512 [1, 0, 2] a8 transposes_S8x400x512_S400x8x512_1_0_2) shapeCasts_S400x8x512_S400x4096,
        shapeCast S128x4096 (transpose S128x8x512 [1, 0, 2] a9 transposes_S8x128x512_S128x8x512_1_0_2) shapeCasts_S128x8x512_S128x4096,
        sideBySide a10 a11 a12, a13⟩
      = { q := fun e i j => a7 (ix3 e i j), i := fun e i j => a8 (ix3 e i j), r := fun e i j => a9 (ix3 e i j),
          aq := fun e i j => a10 (ix3 e i j), ak := fun e i j => a11 (ix3 e i j), av := fun e i j => a12 (ix3 e i j),
          o := fun e i j => a13 (ix3 e i j) } := by
  unfold params
  simp only [Spec.Params.mk.injEq]
  exact ⟨funext fun e => funext fun d => funext fun j => q_at a7 e d j, funext fun e => funext fun d => funext fun j => i_at a8 e d j,
    funext fun e => funext fun d => funext fun j => r_at a9 e d j, funext fun e => funext fun d => funext fun j => side_q a10 a11 a12 e d j,
    funext fun e => funext fun d => funext fun j => side_k a10 a11 a12 e d j,
    funext fun e => funext fun d => funext fun j => side_v a10 a11 a12 e d j, trivial⟩

/-- The weights by expert. -/
theorem params_eq : params (wts (V3 m ρ) c) = (dataOf m c).p := by
  have h (a : Ref sig .tc) (ha : a ∈ argRefs) := W2_args m ρ c a ha
  have hq : (V3 m ρ c main_v5 : FVec Ideal S128x512 .f32) = _ := laid_q (W2 m ρ c)
  have hi : (V3 m ρ c main_v7 : FVec Ideal S400x4096 .f32) = _ := laid_i (W2 m ρ c)
  have hr : (V3 m ρ c main_v9 : FVec Ideal S128x4096 .f32) = _ := laid_r (W2 m ρ c)
  have ha : (V3 m ρ c main_v16 : FVec Ideal S128x6144 .f32) = _ := laid_a (W2 m ρ c)
  rw [h main_arg7 (by decide +kernel)] at hq
  rw [h main_arg8 (by decide +kernel)] at hi
  rw [h main_arg9 (by decide +kernel)] at hr
  rw [h main_arg10 (by decide +kernel), h main_arg11 (by decide +kernel), h main_arg12 (by decide +kernel)] at ha
  have ho : V3 m ρ c main_arg13 = _ := W3_args m ρ c main_arg13 (by decide +kernel)
  unfold wts
  rw [hq, hi, hr, ha, ho]
  exact params_laid _ _ _ _ _ _ _

theorem first_h : matH (k0_pay1 (V3 m ρ c main_arg1 : Vec Ideal S1x8x128 .f32)) = (dataOf m c).h := by
  have ho : V3 m ρ c main_arg1 = _ := W3_args m ρ c main_arg1 (by decide +kernel)
  rw [ho]
  funext e j
  show _ = (m ((c.tc : Thread nD τ).loc main_arg1) : FVec Ideal S1x8x128 .f32) (ix3 0 e j)
  unfold matH
  pointwise [k0_pay1]
theorem first_c : matH (k0_pay2 (V3 m ρ c main_arg2 : Vec Ideal S1x8x128 .f32)) = (dataOf m c).c := by
  have ho : V3 m ρ c main_arg2 = _ := W3_args m ρ c main_arg2 (by decide +kernel)
  rw [ho]
  funext e j
  show _ = (m ((c.tc : Thread nD τ).loc main_arg2) : FVec Ideal S1x8x128 .f32) (ix3 0 e j)
  unfold matH
  pointwise [k0_pay2]

/-! ## Along the run -/

theorem run_zero (W : Step.Weights Ideal) (ks : ℕ → Vec Ideal S1x2x64 .f32) (vs : ℕ → Vec Ideal S1x2x400 .f32)
    (s : Vec Ideal S8x128 .f32 × Vec Ideal S8x128 .f32) : Step.run W ks vs s 0 = s := rfl
theorem run_succ (W : Step.Weights Ideal) (ks : ℕ → Vec Ideal S1x2x64 .f32) (vs : ℕ → Vec Ideal S1x2x400 .f32)
    (s : Vec Ideal S8x128 .f32 × Vec Ideal S8x128 .f32) (n : ℕ) : Step.run W ks vs s (n + 1)
      = (Step.hNext W (ks n) (vs n) (Step.run W ks vs s n).1 (Step.run W ks vs s n).2,
        Step.cNext W (ks n) (vs n) (Step.run W ks vs s n).1 (Step.run W ks vs s n).2) := rfl
theorem state_zero (d : Spec.Data) : d.state 0 = (d.h, d.c) := rfl
theorem state_succ (d : Spec.Data) (n : ℕ) : d.state (n + 1)
    = (Spec.hNext d.p (d.K n) (d.V n) (d.state n).1 (d.state n).2, Spec.cNext d.p (d.K n) (d.V n) (d.state n).1 (d.state n).2) := rfl

/-- The kernel's steps carry the recurrence's state. -/
theorem run_eq (W : Step.Weights Ideal) (ks : ℕ → Vec Ideal S1x2x64 .f32) (vs : ℕ → Vec Ideal S1x2x400 .f32)
    (s₀ : Vec Ideal S8x128 .f32 × Vec Ideal S8x128 .f32) (d : Spec.Data) (hd : d.IsReal) (hp : params W = d.p)
    (hK : ∀ n, n < 2048 → matK (ks n) = d.K n) (hV : ∀ n, n < 2048 → matV (vs n) = d.V n)
    (h0 : matH s₀.1 = d.h) (c0 : matH s₀.2 = d.c) (n : ℕ) (hn : n ≤ 2048) :
    matH (Step.run W ks vs s₀ n).1 = (d.state n).1 ∧ matH (Step.run W ks vs s₀ n).2 = (d.state n).2 := by
  induction n with
  | zero => rw [run_zero, state_zero]; exact ⟨h0, c0⟩
  | succ n ih =>
    obtain ⟨h1, h2⟩ := ih (by omega)
    have hK := hK n hn
    have hV := hV n hn
    rw [run_succ, state_succ]
    generalize Step.run W ks vs s₀ n = s at h1 h2 ⊢
    generalize ks n = k at hK ⊢
    generalize vs n = v at hV ⊢
    have hb : ∀ e, ⊥ < Spec.scores (params W) (matK k) (matH s.1) e 0 := by
      rw [hp, hK, h1]; exact hd.above n
    have hi := inputs_at W k v s.1 hb
    have hm := mask_at W k s.1 hb
    rw [← hp, ← hK, ← hV, ← h1, ← h2]
    exact ⟨funext fun e => funext fun j => hNext_at W k v s.1 s.2 hi hm e j, funext fun e => funext fun j => cNext_at W k v s.1 s.2 hi hm e j⟩

variable (hd : (dataOf m c).IsReal)
include hd

theorem carried_eq (n : ℕ) (hn : n ≤ 2048) :
    matH (carried (V3 m ρ) c n).1 = ((dataOf m c).state n).1 ∧ matH (carried (V3 m ρ) c n).2 = ((dataOf m c).state n).2 := by
  have hp := params_eq m ρ c
  have hK := keyOf_eq m ρ c
  have hV := valueOf_eq m ρ c
  have h0 := first_h m ρ c
  have c0 := first_c m ρ c
  generalize dataOf m c = d at hd hp hK hV h0 c0 ⊢
  generalize V3 m ρ = V at hp hK hV h0 c0 ⊢
  unfold carried
  generalize k0_pay1 (V c main_arg1 : Vec Ideal S1x8x128 .f32) = x at h0 ⊢
  generalize k0_pay2 (V c main_arg2 : Vec Ideal S1x8x128 .f32) = y at c0 ⊢
  exact run_eq _ _ _ (x, y) d hd hp hK hV h0 c0 n hn

theorem scores_above (n : ℕ) (hn : n < 2048) (e : Fin 8) :
    ⊥ < Spec.scores (params (wts (V3 m ρ) c)) (matK (keyOf (V3 m ρ) c n)) (matH (carried (V3 m ρ) c n).1) e 0 := by
  rw [params_eq, keyOf_eq m ρ c n hn, (carried_eq m ρ c hd n (by omega)).1]; exact hd.above n e

/-- The results, element by element. -/
theorem weights_result (q : Fin 4096) :
    (final m ρ c (Proc.devRef .tc main_v19) : FVec Ideal S4096 .f32) (ix1 q)
      = (dataOf m c).weights (q.val / 2) ⟨q.val % 2, Nat.mod_lt _ (by decide)⟩ := by
  have hn : q.val / 2 < 2048 := by omega
  have hw := weightRow_at (wts (V3 m ρ) c) (keyOf (V3 m ρ) c (q.val / 2)) (carried (V3 m ρ) c (q.val / 2)).1 (scores_above m ρ c hd _ hn) ⟨q.val % 2, by omega⟩
  rw [params_eq, keyOf_eq m ρ c _ hn, (carried_eq m ρ c hd _ (by omega)).1] at hw
  have ha : (W4 m ρ c (Proc.devRef .tc main_v17_0) : FVec Ideal S2048x128 .f32) = _ := (W4_arr m ρ c 9).trans (weights_array (V3 m ρ) c)
  rw [show final m ρ c (Proc.devRef .tc main_v19) = _ from out_weights (W4 m ρ c), ha]
  unfold Spec.Data.weights
  rw [← hw]
  pointwise
theorem experts_result (q : Fin 4096) :
    (final m ρ c (Proc.devRef .tc main_v21) : IVec S4096 32) (ix1 q)
      = (dataOf m c).experts (q.val / 2) ⟨q.val % 2, Nat.mod_lt _ (by decide)⟩ := by
  have hn : q.val / 2 < 2048 := by omega
  have hw := expertRow_at (wts (V3 m ρ) c) (keyOf (V3 m ρ) c (q.val / 2)) (carried (V3 m ρ) c (q.val / 2)).1 (scores_above m ρ c hd _ hn) ⟨q.val % 2, by omega⟩
  rw [params_eq, keyOf_eq m ρ c _ hn, (carried_eq m ρ c hd _ (by omega)).1] at hw
  have ha : (W4 m ρ c (Proc.devRef .tc main_v17_1) : IVec S2048x128 32) = _ := (W4_arr m ρ c 10).trans (experts_array (V3 m ρ) c)
  rw [show final m ρ c (Proc.devRef .tc main_v21) = _ from out_experts (W4 m ρ c), ha]
  unfold Spec.Data.experts
  rw [← hw]
  pointwise

end Cert.KernelIdeal.Results

end
-- ==== Proof.Finite.lean ====
/- What the precondition says: in each of its nine arrays every element's absolute value is below +∞, that is, every
   element is a real number. -/
module

public import proofs.«01_k».proof.Defs
public import proofs.«01_k».proof.Proof.KernelIdeal.Results
public import Idealize.ShloMosaic.Lib.ReduceAll
public import Idealize.ShloMosaic.Lib.KernelVsHost
public import Idealize.ShloMosaic.Lib.Pointwise

@[expose] public section

set_option maxRecDepth 16384

noncomputable section

namespace Cert.Finite

open Idealize.ShloMosaic Idealize.ShloMosaic.TcCoe Idealize.SL.Sem Cert.Pre_finite_arguments Cert.Spec

/-- The side conditions of the predicate's operations. -/
theorem facts : Cert.Pre_finite_arguments.Facts where
  bcast_S_S1x2048x1024 := by decide +kernel
  reducesTo_S1x2048x1024_S_d0_1_2 := by decide +kernel
  h_S_ := by decide +kernel
  bcast_S_S1x8x128 := by decide +kernel
  reducesTo_S1x8x128_S_d0_1_2 := by decide +kernel
  bcast_S_S1024x64 := by decide +kernel
  reducesTo_S1024x64_S_d0_1 := by decide +kernel
  bcast_S_S64 := by decide +kernel
  reducesTo_S64_S_d0 := by decide +kernel
  bcast_S_S8x128x64 := by decide +kernel
  reducesTo_S8x128x64_S_d0_1_2 := by decide +kernel
  bcast_S_S8x128x128 := by decide +kernel
  reducesTo_S8x128x128_S_d0_1_2 := by decide +kernel
  bcast_S_S8x128x512 := by decide +kernel
  reducesTo_S8x128x512_S_d0_1_2 := by decide +kernel
  bcast_S_S8x512x128 := by decide +kernel
  reducesTo_S8x512x128_S_d0_1_2 := by decide +kernel

/-- An absolute value below +∞ is a real number's. -/
theorem real_of_below (x : Ideal .f32)
    (h : FloatOps.cmpf .olt (FloatOps.hostAbsf x) (FloatOps.ofBits (F := Ideal) .f32 0x7F800000#32) = 1#1) : Real' x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    unfold Ideal.cmp at h'
    by_contra hn
    simp [hn] at h'
  rw [max_lt_iff] at hlt
  induction x using EReal.rec with
  | bot => simp at hlt
  | top => simp at hlt
  | coe r => exact ⟨r, rfl⟩

instance : Subsingleton S_.Idx := ⟨fun a b => funext fun i => i.elim0⟩

/-- One array's conjunct. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : Real' (x i) :=
  real_of_below (x i) (Host.reduce_andi_all _ _ hr hu j h i)

theorem and_one (a b : IVec S_ 1) (j : S_.Idx) (h : andi a b j = 1#1) : a j = 1#1 ∧ b j = 1#1 := by
  revert h
  show IntOp.andi (a j) (b j) = 1#1 → _
  generalize a j = x
  generalize b j = y
  revert x y
  decide

variable [Facts]

theorem isReal_of_fn (a0 : FVec Ideal S1x2048x1024 .f32) (a1 a2 : FVec Ideal S1x8x128 .f32) (a3 : FVec Ideal S1024x64 .f32) (a4 : FVec Ideal S64 .f32)
    (a5 : FVec Ideal S1024x400 .f32) (a6 : FVec Ideal S400 .f32) (a7 : FVec Ideal S8x128x64 .f32) (a8 : FVec Ideal S8x400x512 .f32)
    (a9 : FVec Ideal S8x128x512 .f32) (a10 a11 : FVec Ideal S8x128x128 .f32) (a12 : FVec Ideal S8x128x512 .f32) (a13 : FVec Ideal S8x512x128 .f32)
    (j : S_.Idx) (h : fn (F := Ideal) a0 a1 a2 a3 a4 a5 a6 a7 a8 a9 a10 a11 a12 a13 j = 1#1) :
    (Spec.data a0 a1 a2 a3 a4 a5 a6 a7 a8 a9 a10 a11 a12 a13).IsReal := by
  unfold fn fn_part1 fn_part2 at h
  obtain ⟨h, h13⟩ := and_one _ _ j h
  obtain ⟨h, h12⟩ := and_one _ _ j h
  obtain ⟨h, h11⟩ := and_one _ _ j h
  obtain ⟨h, h10⟩ := and_one _ _ j h
  obtain ⟨h, h7⟩ := and_one _ _ j h
  obtain ⟨h, h4⟩ := and_one _ _ j h
  obtain ⟨h, h3⟩ := and_one _ _ j h
  obtain ⟨h0, h1⟩ := and_one _ _ j h
  exact
    { x := fun n j' => real_of_all a0 _ _ _ j h0 _
      wk := fun n j' => real_of_all a3 _ _ _ j h3 _
      bk := fun j' => real_of_all a4 _ _ _ j h4 _
      h := fun e j' => real_of_all a1 _ _ _ j h1 _
      q := fun e n j' => real_of_all a7 _ _ _ j h7 _
      aq := fun e n j' => real_of_all a10 _ _ _ j h10 _
      ak := fun e n j' => real_of_all a11 _ _ _ j h11 _
      av := fun e n j' => real_of_all a12 _ _ _ j h12 _
      o := fun e n j' => real_of_all a13 _ _ _ j h13 _ }

/-- Under the precondition the recurrence's arguments are real. -/
theorem isReal (m : (ℓ : Loc KernelIdeal.nD KernelIdeal.τ KernelIdeal.sig) → Buf (Elt Ideal) ℓ) (h : Cert.Pre_KernelIdeal m)
    (c : Dev KernelIdeal.nD) : (KernelIdeal.Results.dataOf m c).IsReal := by
  unfold KernelIdeal.Results.dataOf
  exact isReal_of_fn _ _ _ _ _ _ _ _ _ _ _ _ _ _ (fun i => i.elim0) (congrFun (h c) _)

end Cert.Finite

end
-- ==== Proof.Reference.Entries.lean ====
/- The reference's step over the extended reals, entry by entry: every stage of it is the stage of the plain step. -/
module

public import proofs.«01_k».proof.Proof.Spec
public import proofs.«01_k».proof.Proof.Gen.ReferenceIdeal.Step

@[expose] public section

set_option maxRecDepth 16384

noncomputable section

namespace Cert.ReferenceIdeal.Entries

open Idealize.ShloMosaic Idealize.SL.Sem Cert.ReferenceIdeal Cert.ReferenceIdeal.Gen Cert.ReferenceIdeal.Step

variable (n : ℕ) (s : State Ideal)

/-- The weights by expert. -/
def params : Spec.Params where
  q e d j := s.main_v3_5 (ix3 e d j)
  i e d j := s.main_v3_6 (ix3 e d j)
  r e d j := s.main_v3_7 (ix3 e d j)
  aq e d j := s.main_v3_8 (ix3 e d j)
  ak e d j := s.main_v3_9 (ix3 e d j)
  av e d j := s.main_v3_10 (ix3 e d j)
  o e d j := s.main_v3_11 (ix3 e d j)

/-- The step's keys and values, and the carried state, as matrices. -/
def matK : Spec.Mat 2 64 := fun a j => b11 n s (ix3 0 a j)
def matV : Spec.Mat 2 400 := fun a j => b15 n s (ix3 0 a j)
def matH : Spec.Mat 8 128 := fun e j => s.main_v3_13 (ix3 0 e j)
def matC : Spec.Mat 8 128 := fun e j => s.main_v3_14 (ix3 0 e j)

/-- Two spellings of a matrix product's entry. -/
theorem prod_comm {m : ℕ} (x y : Fin m → EReal) : ∑ d, x d * y d = ∑ d, y d * x d :=
  Finset.sum_congr rfl fun _ _ => mul_comm _ _

theorem query_at (e : Fin 8) (k : Fin 64) : b17 n s (ix3 0 e k) = Spec.blockMul (matH s) (params s).q e k := by
  unfold Spec.blockMul
  rw [prod_comm]
  unfold params matH
  pointwise [b17, b16]

theorem scores_at (e : Fin 8) (a : Fin 2) : b21 n s (ix3 0 e a) = Spec.scores (params s) (matK n s) (matH s) e a := by
  have hq := query_at n s
  unfold b21 b20 b19 b18
  generalize b17 n s = q at hq ⊢
  unfold Spec.scores matK
  pointwise [hq]

theorem fold_bot {m : ℕ} (x : Fin m → EReal) : max (Ideal.ofBits .f32 0xFF800000#32) (Spec.rowMax x) = Spec.rowMax x := by
  apply max_eq_right
  unfold Spec.rowMax
  rw [Finset.le_fold_max]
  exact Or.inl le_rfl

theorem probs_at (e : Fin 8) (a : Fin 2) : b64 n s (ix3 0 e a) = Spec.probs (params s) (matK n s) (matH s) e a := by
  have hs := scores_at n s
  have hm : b55 n s (ix2 0 e) = Spec.rowMax (Spec.scores (params s) (matK n s) (matH s) e) := by
    unfold b55 b54 b53 b52 b51
    rw [← fold_bot]
    unfold Spec.rowMax
    generalize b21 n s = x at hs ⊢
    pointwise [hs]
  unfold b64 b63 b62 b61 b60 b59 b58 b57 b56
  generalize b55 n s = y at hm ⊢
  generalize b21 n s = x at hs ⊢
  unfold Spec.probs Spec.softmax
  pointwise [hs, hm]

theorem inputs_at (hm : ∀ e, b50 n s (ix2 0 e) = Spec.mask (params s) (matK n s) (matH s) e) (e : Fin 8) (d : Fin 400) :
    b68 n s (ix3 0 e d) = Spec.inputs (params s) (matK n s) (matV n s) (matH s) e d := by
  have hp := probs_at n s
  unfold b68 b67 b66 b65 Spec.inputs matV
  generalize b64 n s = x at hp ⊢
  generalize b50 n s = y at hm ⊢
  pointwise [hp, hm]

theorem gates_at (hm : ∀ e, b50 n s (ix2 0 e) = Spec.mask (params s) (matK n s) (matH s) e) (e : Fin 8) (g : Fin 512) :
    b104 n s (ix3 0 e g) = Spec.gates (params s) (matK n s) (matV n s) (matH s) e g := by
  have hi := inputs_at n s hm
  unfold Spec.gates Spec.blockMul
  rw [prod_comm, prod_comm (fun d => matH s e d)]
  unfold b104 b103 b102 b101 b100
  generalize b68 n s = x at hi ⊢
  unfold matH
  pointwise [hi]
  rfl

theorem one_bits : Ideal.ofBits .f32 0x3F800000#32 = 1 := by
  simp [Ideal.ofBits, Ideal.ieee, -EReal.coe_mul]; norm_num

theorem sigmoid_at (e : Fin 8) (g : Fin 384) : b113 n s (ix3 0 e g) = Ideal.logistic (b104 n s (ix3 0 e ⟨g.val, by omega⟩)) := by
  unfold b113 b112 b111 b110 b109 b108 b107 b106 b105 Ideal.logistic
  generalize b104 n s = x
  pointwise []

end Cert.ReferenceIdeal.Entries
end
-- ==== Proof.Reference.Selection.lean ====
/- The reference's selection of the two experts over the extended reals: the top two, the mask their scatter makes,
   their numbers in order and the weights gathered at them. -/
module

public import proofs.«01_k».proof.Proof.Reference.Entries
public import proofs.«01_k».proof.Proof.Picks
public import Idealize.ShloMosaic.Lib.Routing.OpsSet

@[expose] public section

set_option maxRecDepth 16384

noncomputable section

namespace Cert.ReferenceIdeal.Entries

open Idealize.ShloMosaic Idealize.SL.Sem Cert.ReferenceIdeal Cert.ReferenceIdeal.Gen Cert.ReferenceIdeal.Step

variable (n : ℕ) (s : State Ideal)

/-- The two selected experts, in the order of their scores. -/
def chosen (i : Fin 2) : Fin 8 := if i = 0 then Spec.first (params s) (matK n s) (matH s) else Spec.second (params s) (matK n s) (matH s)

theorem column_at (e : Fin 8) : b23 n s (ix2 0 e) = Spec.scores (params s) (matK n s) (matH s) e 0 := by
  have hs := scores_at n s
  unfold b23 b22
  generalize b21 n s = x at hs ⊢
  pointwise [hs]

theorem along_row {m : ℕ} (j : (⟨2, ![1, m]⟩ : Shape).Idx) (k : Fin m) : j.along 1 k = ix2 0 k := by
  funext a
  fin_cases a
  · exact Subsingleton.elim (α := Fin 1) _ _
  · exact Function.update_self ..

theorem topTwo_at (x : S1x8.Idx → EReal) (f : Fin 8 → EReal) (hx : ∀ e, x (ix2 0 e) = f e) (i : Fin 2) :
    (Host.topK S1x2 1 (FloatOps.cmpfTotal (F := Ideal) (φ := .f32) .gt) x sliceFits_S1x8_S1x2).2 (ix2 0 i)
      = BitVec.ofNat 32 (Spec.pick f ⟨i.val, by omega⟩).val := by
  have h1 (j : S1x8.Idx) (k : Fin 8) : x (Shape.Idx.along (s := S1x8) j 1 k) = f k := by
    rw [← hx]; exact congrArg x (along_row _ k)
  have h2 (j : S1x8.Idx) : sortedFrom (fun k k' : Fin 8 => FloatOps.cmpfTotal (F := Ideal) (φ := .f32) .gt (x (Shape.Idx.along (s := S1x8) j 1 k))
      (x (Shape.Idx.along (s := S1x8) j 1 k')) == 1#1) = Spec.pick f := by
    refine congrArg sortedFrom ?_
    funext k k'
    rw [h1, h1]
    show (BitVec.ofBool (decide (f k' < f k)) == 1#1) = decide (f k' < f k)
    cases decide (f k' < f k) <;> rfl
  have key (j : S1x8.Idx) : BitVec.ofNat 32 (Shape.Idx.along (s := S1x8) j 1 (sortedFrom (fun k k' : Fin 8 =>
      FloatOps.cmpfTotal (F := Ideal) (φ := .f32) .gt (x (Shape.Idx.along (s := S1x8) j 1 k))
        (x (Shape.Idx.along (s := S1x8) j 1 k')) == 1#1) (j 1)) 1).val = BitVec.ofNat 32 (Spec.pick f (j 1)).val := by
    refine congrArg (BitVec.ofNat 32) ?_
    refine (congrArg Fin.val (Function.update_self (β := fun a => Fin (S1x8.size a)) 1 _ j)).trans ?_
    exact congrArg Fin.val (congrFun (h2 j) (j 1))
  refine (key _).trans ?_
  refine congrArg (fun e : Fin 8 => BitVec.ofNat 32 (Spec.pick f e).val) (Fin.ext ?_)
  show 0 + i.val = i.val
  omega

theorem pair_sorted (a b : Fin 8) (i : Fin 2) :
    (![BitVec.ofNat 32 a.val, BitVec.ofNat 32 b.val] : Fin 2 → BitVec 32) (sortedFrom (fun k k' =>
      comparator_i32_d1 ((![BitVec.ofNat 32 a.val, BitVec.ofNat 32 b.val] : Fin 2 → BitVec 32) k)
        ((![BitVec.ofNat 32 a.val, BitVec.ofNat 32 b.val] : Fin 2 → BitVec 32) k') == 1#1) i)
      = BitVec.ofNat 32 (if i = 0 then min a b else max a b).val := by
  revert a b i; decide

theorem sort_two (x : S1x2.Idx → BitVec 32) (a b : Fin 8) (ha : x (ix2 0 0) = BitVec.ofNat 32 a.val) (hb : x (ix2 0 1) = BitVec.ofNat 32 b.val)
    (i : Fin 2) : Host.sort S1x2 1 comparator_i32_d1 x (ix2 0 i) = BitVec.ofNat 32 (if i = 0 then min a b else max a b).val := by
  have hx (k : Fin 2) : x (ix2 0 k) = (![BitVec.ofNat 32 a.val, BitVec.ofNat 32 b.val] : Fin 2 → BitVec 32) k := by
    fin_cases k
    · exact ha
    · exact hb
  rw [← pair_sorted]
  unfold Host.sort
  rw [dif_pos (by decide)]
  have h1 (k : Fin 2) : x (Shape.Idx.along (s := S1x2) (ix2 0 i) 1 k) = (![BitVec.ofNat 32 a.val, BitVec.ofNat 32 b.val] : Fin 2 → BitVec 32) k := by
    rw [← hx]; exact congrArg x (along_row _ k)
  refine (h1 _).trans ?_
  congr 1
  refine congrFun (congrArg sortedFrom ?_) i
  funext k k'
  rw [← h1 k, ← h1 k']
  rfl

theorem start_at (idx : IVec S1x2x2 32) (i : Fin 2) (a : Fin 2) :
    scatter_S1x8_S1x2x2_S1x2_n_01_01_2.start (ix2 0 i) idx a = (idx (ix3 0 i a)).toInt := by
  unfold ScatterDims.start
  rw [dif_pos (by revert a; decide)]
  refine congrArg (fun j => (idx j).toInt) ?_
  funext b
  refine Fin.ext ?_
  revert i a b; decide

theorem window_at (i : Fin 2) (a : Fin 2) : scatter_S1x8_S1x2x2_S1x2_n_01_01_2.window (ix2 0 i) a = 0 := by
  revert i a; decide

theorem word_toInt (e : Fin 8) : (BitVec.ofNat 32 e.val).toInt = e.val := by
  revert e; decide

/-- The scatter of two ones into zeros, at the two places the indices name. -/
theorem scatter_two (x : S1x8.Idx → EReal) (idx : IVec S1x2x2 32) (u : S1x2.Idx → EReal) (p : Fin 2 → Fin 8)
    (h0 : ∀ i : Fin 2, idx (ix3 0 i 0) = 0#32) (h1 : ∀ i : Fin 2, idx (ix3 0 i 1) = BitVec.ofNat 32 (p i).val)
    (hu : ∀ k, u k = 1) (hx : ∀ k, x k = 0) (e : Fin 8) :
    Host.scatter scatter_S1x8_S1x2x2_S1x2_n_01_01_2 (fun _ b => b) x idx u (ix2 0 e) = if e = p 0 ∨ e = p 1 then 1 else 0 := by
  have hl (i : Fin 2) : scatter_S1x8_S1x2x2_S1x2_n_01_01_2.resultIdx? (ix2 0 i) idx = some (ix2 0 e) ↔ e = p i := by
    rw [Routing.resultIdx?_eq_some]
    constructor
    · intro h
      have := h 1
      rw [start_at, window_at, h1, word_toInt] at this
      refine Fin.ext ?_
      have h2 : ((ix2 (0 : Fin 1) e : S1x8.Idx) 1).val = e.val := rfl
      rw [h2] at this
      omega
    · intro h a
      rw [start_at, window_at]
      fin_cases a
      · exact (congrArg (fun z : BitVec 32 => z.toInt + ((0 : ℕ) : ℤ)) (h0 i)).trans rfl
      · refine (congrArg (fun z : BitVec 32 => z.toInt + ((0 : ℕ) : ℤ)) (h1 i)).trans ?_
        show (BitVec.ofNat 32 (p i).val).toInt + ((0 : ℕ) : ℤ) = (e.val : ℤ)
        rw [word_toInt, h]; simp
  have hk (k : S1x2.Idx) : ∃ i : Fin 2, k = ix2 0 i := by
    refine ⟨k 1, ?_⟩
    funext a
    fin_cases a
    · exact Subsingleton.elim (α := Fin 1) _ _
    · rfl
  by_cases he : e = p 0 ∨ e = p 1
  · rw [if_pos he]
    rcases he with he | he
    · exact Routing.scatter_set_hit _ _ _ _ _ 1 (fun k _ => hu k) (ix2 0 0) ((hl 0).2 he)
    · exact Routing.scatter_set_hit _ _ _ _ _ 1 (fun k _ => hu k) (ix2 0 1) ((hl 1).2 he)
  · rw [if_neg he, Routing.scatter_set_miss, hx]
    intro k hc
    obtain ⟨i, rfl⟩ := hk k
    rw [hl] at hc
    refine he ?_
    fin_cases i
    · exact Or.inl hc
    · exact Or.inr hc

theorem gather_at (x : S1x8.Idx → EReal) (idx : IVec S2x1 32) (i : Fin 2) (e : Fin 8) (he : idx (ix2 i 0) = BitVec.ofNat 32 e.val) :
    Host.gather gather_S1x8_S2x1_S1x2_0_1_n_n_1_1_11 x idx (ix2 0 i) = x (ix2 0 e) := by
  unfold Host.gather GatherDims.operandIdx
  refine congrArg x ?_
  have hs : gather_S1x8_S2x1_S1x2_0_1_n_n_1_1_11.start (ix2 0 i) idx 1 = e.val := by
    unfold GatherDims.start
    rw [dif_pos (by decide)]
    have : gather_S1x8_S2x1_S1x2_0_1_n_n_1_1_11.siIdx (ix2 0 i) ⟨gather_S1x8_S2x1_S1x2_0_1_n_n_1_1_11.startIndexMap.idxOf 1,
        List.idxOf_lt_length_iff.2 (by decide)⟩ = ix2 i 0 := by
      funext b
      refine Fin.ext ?_
      clear he; revert i b; decide
    rw [this, he, word_toInt]
    show min ((e.val : ℤ).toNat) (8 - 1) = e.val
    omega
  funext a
  refine Fin.ext ?_
  fin_cases a
  · exact Nat.lt_one_iff.1 (Fin.isLt _)
  · show gather_S1x8_S2x1_S1x2_0_1_n_n_1_1_11.start (ix2 0 i) idx 1 + gather_S1x8_S2x1_S1x2_0_1_n_n_1_1_11.batchCoord (ix2 0 i) 1
      + gather_S1x8_S2x1_S1x2_0_1_n_n_1_1_11.offCoord (ix2 0 i) 1 = e.val
    rw [hs]
    have h1 : gather_S1x8_S2x1_S1x2_0_1_n_n_1_1_11.batchCoord (ix2 0 i) 1 = 0 := by clear * -; revert i; decide
    have h2 : gather_S1x8_S2x1_S1x2_0_1_n_n_1_1_11.offCoord (ix2 0 i) 1 = 0 := by clear * -; revert i; decide
    rw [h1, h2]; rfl

theorem top_at (i : Fin 2) : b25 n s (ix2 0 i) = BitVec.ofNat 32 (chosen n s i).val := by
  unfold b25
  rw [topTwo_at (b23 n s) _ (column_at n s)]
  fin_cases i <;> rfl

/-- A word naming an expert is not negative, so the wrap of a negative index leaves it. -/
theorem wrapped (e : Fin 8) : Scalar.select (IntOp.cmpi .slt (BitVec.ofNat 32 e.val) 0#32) (IntOp.addi (BitVec.ofNat 32 e.val) 8#32) (BitVec.ofNat 32 e.val)
    = BitVec.ofNat 32 e.val := by
  revert e; decide

theorem indices0_at (i : Fin 2) : b47 n s (ix3 0 i 0) = 0#32 := by
  unfold b47 b45 b44 b36 b35 b34 b33 b32 b31 b30 b29 b28
  generalize b46 n s = x
  pointwise []
  decide

theorem indices1_at (i : Fin 2) : b47 n s (ix3 0 i 1) = BitVec.ofNat 32 (chosen n s i).val := by
  have ht := top_at n s
  unfold b47 b46 b43 b42 b41 b40 b39 b38 b37
  generalize b45 n s = x
  generalize b25 n s = y at ht ⊢
  pointwise [ht]
  exact wrapped _

theorem zero_bits : Ideal.ofBits .f32 0x00000000#32 = 0 := by
  simp [Ideal.ofBits, Ideal.ieee]

theorem mask_at (e : Fin 8) : b50 n s (ix2 0 e) = Spec.mask (params s) (matK n s) (matH s) e := by
  unfold b50
  exact scatter_two (b27 n s) (b47 n s) (b49 n s) (chosen n s) (indices0_at n s) (indices1_at n s)
    (fun _ => one_bits) (fun _ => zero_bits) e

theorem sorted_at (i : Fin 2) : b69 n s (ix2 0 i) = Spec.expert (params s) (matK n s) (matH s) i := by
  unfold b69
  rw [sort_two _ (chosen n s 0) (chosen n s 1) (top_at n s 0) (top_at n s 1)]
  fin_cases i <;> rfl

/-- The expert at one place of the two in the order of their numbers. -/
def ordered (i : Fin 2) : Fin 8 := if i = 0 then Spec.lo (params s) (matK n s) (matH s) else Spec.hi (params s) (matK n s) (matH s)

theorem ordered_at (i : Fin 2) : b79 n s (ix2 i 0) = BitVec.ofNat 32 (ordered n s i).val := by
  have ht (i : Fin 2) : b69 n s (ix2 0 i) = BitVec.ofNat 32 (ordered n s i).val := by
    rw [sorted_at]; fin_cases i <;> rfl
  unfold b79 b78 b77 b76 b75 b74 b73 b72
  generalize b69 n s = y at ht ⊢
  pointwise [ht]
  exact wrapped _

theorem inRange_at (i : Fin 2) : b89 n s (ix1 i) = 1#1 := by
  have ht := ordered_at n s
  unfold b89 b88 b87 b86 b85 b84 b83 b82 b81 b80
  generalize b79 n s = y at ht ⊢
  pointwise [ht]
  have h1 (e : Fin 8) : IntOp.andi 1#1 (IntOp.andi (IntOp.cmpi .sge (BitVec.ofNat 32 e.val) 0#32) (IntOp.cmpi .sle (BitVec.ofNat 32 e.val) 7#32)) = 1#1 := by
    revert e; decide
  have h2 (x : Fin 1) : IntOp.andi (IntOp.cmpi .sge (y (ix2 i x)) 0#32) (IntOp.cmpi .sle (y (ix2 i x)) 7#32)
      = IntOp.andi (IntOp.cmpi .sge (y (ix2 i 0)) 0#32) (IntOp.cmpi .sle (y (ix2 i 0)) 7#32) := by
    rw [Subsingleton.elim x 0]
  simp only [h2, ht]
  rw [Finset.univ_unique, Finset.fold_singleton]
  have h3 (a b : BitVec 1) : IntOp.andi a b = IntOp.andi b a := by revert a b; decide
  rw [h3]
  exact h1 _

theorem taken_at (i : Fin 2) : b94 n s (ix2 0 i) = Spec.probs (params s) (matK n s) (matH s) (ordered n s i) 0 := by
  have hr := inRange_at n s
  have hp := probs_at n s
  have hg : b90 n s (ix2 0 i) = Spec.probs (params s) (matK n s) (matH s) (ordered n s i) 0 := by
    unfold b90
    rw [gather_at _ _ i _ (ordered_at n s i)]
    unfold b71 b70
    generalize b64 n s = x at hp ⊢
    pointwise [hp]
  unfold b94 b91
  generalize b90 n s = x at hg ⊢
  generalize b89 n s = y at hr ⊢
  generalize b93 n s = z
  pointwise [hr, hg]

theorem weight_at (i : Fin 2) : b99 n s (ix2 0 i) = Spec.weight (params s) (matK n s) (matH s) i := by
  have ht := taken_at n s
  unfold b99 b98 b97 b96 b95
  generalize b94 n s = x at ht ⊢
  pointwise [ht]
  rw [Fin.sum_univ_two]
  fin_cases i <;> rfl

end Cert.ReferenceIdeal.Entries
end
-- ==== Proof.Reference.Update.lean ====
/- The reference's update of the state over the extended reals: the cell, the attention among the experts and the next
   pair, entry by entry. -/
module

public import proofs.«01_k».proof.Proof.Reference.Selection

@[expose] public section

set_option maxRecDepth 16384

noncomputable section

namespace Cert.ReferenceIdeal.Entries

open Idealize.ShloMosaic Idealize.SL.Sem Cert.ReferenceIdeal Cert.ReferenceIdeal.Gen Cert.ReferenceIdeal.Step

variable (n : ℕ) (s : State Ideal)

/-- The step's pieces, at the reference's state. -/
abbrev cellOf : Spec.Mat 8 128 := Spec.cellNew (params s) (matK n s) (matV n s) (matH s) (matC s)
abbrev hidOf : Spec.Mat 8 128 := Spec.hidNew (params s) (matK n s) (matV n s) (matH s) (matC s)
abbrev maskOf : Fin 8 → EReal := Spec.mask (params s) (matK n s) (matH s)

theorem cell_at (e : Fin 8) (j : Fin 128) : b121 n s (ix3 0 e j) = cellOf n s e j := by
  have hg := gates_at n s (mask_at n s)
  have hs := sigmoid_at n s
  unfold b121 b120 b119 b117 b116 b115 b114
  generalize b113 n s = x at hs ⊢
  generalize b104 n s = y at hg hs ⊢
  unfold cellOf Spec.cellNew matC
  pointwise [hs, hg]

theorem hid_at (e : Fin 8) (j : Fin 128) : b123 n s (ix3 0 e j) = hidOf n s e j := by
  have hg := gates_at n s (mask_at n s)
  have hs := sigmoid_at n s
  have hc := cell_at n s
  unfold b123 b122 b118
  generalize b113 n s = x at hs ⊢
  generalize b104 n s = y at hg hs ⊢
  generalize b121 n s = z at hc ⊢
  unfold hidOf Spec.hidNew
  pointwise [hs, hg, hc]

theorem mask_cases (e : Fin 8) : maskOf n s e = 0 ∨ maskOf n s e = 1 := by
  unfold maskOf Spec.mask
  split
  · exact Or.inr rfl
  · exact Or.inl rfl

theorem one_sub_one : (1 : EReal) - 1 = 0 := by
  have h : ((1 : ℝ) : EReal) - ((1 : ℝ) : EReal) = 0 := by rw [← EReal.coe_sub, sub_self, EReal.coe_zero]
  exact h

/-- A factor that is 0 or 1 comes out of a sum of products. -/
theorem sum_share {k : ℕ} (m : EReal) (hm : m = 0 ∨ m = 1) (f g : Fin k → EReal) : ∑ x, f x * m * g x = m * ∑ x, f x * g x := by
  rcases hm with rfl | rfl
  · simp
  · simp

/-- A share of one entry and the rest of it make the entry, for a share that is 0 or 1. -/
theorem blend_same (m x : EReal) (hm : m = 0 ∨ m = 1) : m * x + (1 - m) * x = x := by
  rcases hm with rfl | rfl
  · rw [zero_mul, zero_add, sub_zero, one_mul]
  · rw [one_sub_one, zero_mul, add_zero, one_mul]

theorem blend_at (e : Fin 8) (j : Fin 128) : b132 n s (ix3 0 e j) = hidOf n s e j := by
  have hh := hid_at n s
  have hm := mask_at n s
  refine Eq.trans ?_ (blend_same (maskOf n s e) (hidOf n s e j) (mask_cases n s e))
  unfold b132 b131 b130 b129 b128 b127 b126 b125 b124
  generalize b123 n s = x at hh ⊢
  generalize b50 n s = y at hm ⊢
  pointwise [hh, hm]

theorem queries_at (e : Fin 8) (j : Fin 128) : b134 n s (ix3 0 e j) = Spec.blockMul (hidOf n s) (params s).aq e j := by
  have hb := blend_at n s
  unfold Spec.blockMul
  rw [prod_comm]
  unfold b134 b133 params
  generalize b132 n s = x at hb ⊢
  pointwise [hb]

theorem keys_at (e : Fin 8) (j : Fin 128) : b138 n s (ix3 0 e j) = Spec.blockMul (hidOf n s) (params s).ak e j := by
  have hb := blend_at n s
  unfold Spec.blockMul
  rw [prod_comm]
  unfold b138 b137 params
  generalize b132 n s = x at hb ⊢
  pointwise [hb]

theorem values_at (e : Fin 8) (j : Fin 512) : b142 n s (ix3 0 e j) = Spec.blockMul (hidOf n s) (params s).av e j := by
  have hb := blend_at n s
  unfold Spec.blockMul
  rw [prod_comm]
  unfold b142 b141 params
  generalize b132 n s = x at hb ⊢
  pointwise [hb]

theorem attScores_at (a : Fin 4) (i j : Fin 8) : b148 n s (ix4 0 a i j)
    = Ideal.div (∑ d : Fin 32, Spec.blockMul (hidOf n s) (params s).aq i ⟨a.val * 32 + d.val, by omega⟩
        * Spec.blockMul (hidOf n s) (params s).ak j ⟨a.val * 32 + d.val, by omega⟩) (Ideal.ofBits .f32 0x40B504F3#32) := by
  have hq := queries_at n s
  have hk := keys_at n s
  unfold b148 b147 b146 b145 b140 b139 b136 b135
  generalize b134 n s = x at hq ⊢
  generalize b138 n s = y at hk ⊢
  pointwise [hq, hk]

theorem att_at (a : Fin 4) (i j : Fin 8) : b162 n s (ix4 0 a i j)
    = Spec.att (Spec.blockMul (hidOf n s) (params s).aq) (Spec.blockMul (hidOf n s) (params s).ak) a i j := by
  unfold Spec.att Spec.softmax
  have hs := attScores_at n s
  have hm : b153 n s (ix3 0 a i) = Spec.rowMax (fun j => b148 n s (ix4 0 a i j)) := by
    unfold b153 b152 b151 b150 b149
    rw [← fold_bot]
    unfold Spec.rowMax
    generalize b148 n s = x
    pointwise []
  simp only [← hs]
  unfold b162 b161 b160 b159 b158 b157 b156 b155 b154
  generalize b153 n s = y at hm ⊢
  generalize b148 n s = x at hm ⊢
  pointwise [hm]

theorem heads_at (e : Fin 8) (j : Fin 512) : b168 n s (ix3 0 e j)
    = maskOf n s e * Spec.heads (Spec.blockMul (hidOf n s) (params s).aq) (Spec.blockMul (hidOf n s) (params s).ak)
        (Spec.blockMul (hidOf n s) (params s).av) e j := by
  have ha := att_at n s
  have hv := values_at n s
  have hm := mask_at n s
  unfold b168 b167 b166 b165 b164 b163 b144 b143 Spec.heads
  generalize b162 n s = x at ha ⊢
  generalize b142 n s = y at hv ⊢
  generalize b50 n s = z at hm ⊢
  pointwise [ha, hv, hm]
  exact sum_share _ (mask_cases n s e) _ _

theorem comm_at (e : Fin 8) (j : Fin 128) : b170 n s (ix3 0 e j) = maskOf n s e * Spec.comm (params s) (hidOf n s) e j := by
  have hh := heads_at n s
  unfold Spec.comm
  generalize Spec.heads (Spec.blockMul (hidOf n s) (params s).aq) (Spec.blockMul (hidOf n s) (params s).ak)
    (Spec.blockMul (hidOf n s) (params s).av) = g at hh ⊢
  unfold Spec.blockMul
  rw [← sum_share (maskOf n s e) (mask_cases n s e)]
  have hs : b170 n s (ix3 0 e j) = ∑ d, (params s).o e d j * b168 n s (ix3 0 e d) := by
    unfold b170 b169 params
    generalize b168 n s = x
    pointwise []
  rw [hs]
  exact Finset.sum_congr rfl fun d _ => by rw [hh, mul_comm, mul_comm (maskOf n s e)]

/-- For a share that is 0 or 1, the share of an entry already holding that share. -/
theorem share_twice (m x y : EReal) (hm : m = 0 ∨ m = 1) : m * (m * x + y) = m * (x + y) := by
  rcases hm with rfl | rfl
  · rw [zero_mul, zero_mul]
  · simp only [one_mul]

theorem hNext_at (e : Fin 8) (j : Fin 128) : b179 n s (ix3 0 e j)
    = Spec.hNext (params s) (matK n s) (matV n s) (matH s) (matC s) e j := by
  have hc := comm_at n s
  have hb := blend_at n s
  have hm := mask_at n s
  refine Eq.trans ?_ (congrArg (· + (1 - maskOf n s e) * matH s e j)
    (share_twice (maskOf n s e) (Spec.comm (params s) (hidOf n s) e j) (hidOf n s e j) (mask_cases n s e)))
  unfold b179 b178 b177 b176 b175 b174 b173 b172 b171 b124
  generalize b170 n s = x at hc ⊢
  generalize b132 n s = z at hb ⊢
  generalize b50 n s = y at hm ⊢
  pointwise [hc, hb, hm]
  rfl

theorem cNext_at (e : Fin 8) (j : Fin 128) : b187 n s (ix3 0 e j)
    = Spec.cNext (params s) (matK n s) (matV n s) (matH s) (matC s) e j := by
  have hc := cell_at n s
  have hm := mask_at n s
  unfold b187 b186 b185 b184 b183 b182 b181 b180 b124 Spec.cNext matC
  generalize b121 n s = x at hc ⊢
  generalize b50 n s = y at hm ⊢
  pointwise [hc, hm]
  rfl

end Cert.ReferenceIdeal.Entries
end
-- ==== Proof.Reference.Trips.lean ====
/- The reference's run over states: at a valuation that holds a state, every value of one trip of its loop is that state's
   (`Gen/ReferenceIdeal/Step.lean`), so a trip keeps holding with `step` applied, what precedes the loop holds the initial
   state, and the results are read off state number 2048. -/
module

public import proofs.«01_k».proof.Proof.Gen.ReferenceIdeal.Run
public import proofs.«01_k».proof.Proof.Gen.ReferenceIdeal.Step

@[expose] public section

set_option maxRecDepth 8192

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_13 : V0 (Proc.devRef .tc main_v3_13) = s.main_v3_13
  f_14 : V0 (Proc.devRef .tc main_v3_14) = s.main_v3_14
  f_15 : V0 (Proc.devRef .tc main_v3_15) = s.main_v3_15
  f_16 : V0 (Proc.devRef .tc main_v3_16) = s.main_v3_16
  f_0 : V0 (Proc.devRef .tc main_v3_0) = s.main_v3_0
  f_1 : V0 (Proc.devRef .tc main_v3_1) = s.main_v3_1
  f_2 : V0 (Proc.devRef .tc main_v3_2) = s.main_v3_2
  f_3 : V0 (Proc.devRef .tc main_v3_3) = s.main_v3_3
  f_4 : V0 (Proc.devRef .tc main_v3_4) = s.main_v3_4
  f_5 : V0 (Proc.devRef .tc main_v3_5) = s.main_v3_5
  f_6 : V0 (Proc.devRef .tc main_v3_6) = s.main_v3_6
  f_7 : V0 (Proc.devRef .tc main_v3_7) = s.main_v3_7
  f_8 : V0 (Proc.devRef .tc main_v3_8) = s.main_v3_8
  f_9 : V0 (Proc.devRef .tc main_v3_9) = s.main_v3_9
  f_10 : V0 (Proc.devRef .tc main_v3_10) = s.main_v3_10
  f_11 : V0 (Proc.devRef .tc main_v3_11) = s.main_v3_11
  n_12 : V0 (Proc.devRef .tc main_v3_12) = constantI S_ 32 (BitVec.ofNat 32 j)

variable {V0 s j}

/-- The state a valuation holds. -/
def held (V : Valuation τ sig (Elt F)) : State F where
  main_v3_13 := V (Proc.devRef .tc main_v3_13)
  main_v3_14 := V (Proc.devRef .tc main_v3_14)
  main_v3_15 := V (Proc.devRef .tc main_v3_15)
  main_v3_16 := V (Proc.devRef .tc main_v3_16)
  main_v3_0 := V (Proc.devRef .tc main_v3_0)
  main_v3_1 := V (Proc.devRef .tc main_v3_1)
  main_v3_2 := V (Proc.devRef .tc main_v3_2)
  main_v3_3 := V (Proc.devRef .tc main_v3_3)
  main_v3_4 := V (Proc.devRef .tc main_v3_4)
  main_v3_5 := V (Proc.devRef .tc main_v3_5)
  main_v3_6 := V (Proc.devRef .tc main_v3_6)
  main_v3_7 := V (Proc.devRef .tc main_v3_7)
  main_v3_8 := V (Proc.devRef .tc main_v3_8)
  main_v3_9 := V (Proc.devRef .tc main_v3_9)
  main_v3_10 := V (Proc.devRef .tc main_v3_10)
  main_v3_11 := V (Proc.devRef .tc main_v3_11)

/-- A valuation that holds a state holds just that one. -/
theorem Holds.eq_held (h : Holds V0 s j) : s = held V0 := by
  cases s
  simp only [held, State.mk.injEq]
  exact ⟨h.f_13.symm, h.f_14.symm, h.f_15.symm, h.f_16.symm, h.f_0.symm, h.f_1.symm, h.f_2.symm, h.f_3.symm, h.f_4.symm, h.f_5.symm,
    h.f_6.symm, h.f_7.symm, h.f_8.symm, h.f_9.symm, h.f_10.symm, h.f_11.symm⟩

/-- The input's row and the row of zeros: the one value of a trip that reads the trip's number besides the two results. -/
theorem row (h : Holds V0 s j) : res_main_while0b_v9 V0 = Cert.ReferenceIdeal.Step.b7 j s := by
  rw [h.eq_held]
  unfold res_main_while0b_v9
  rw [h.n_12]
  rfl

/-! Each value of a trip that is used more than once is the state's, one after another; what is used once lies between them. -/

theorem v22 (h : Holds V0 s j) : res_main_while0b_v22 V0 = Cert.ReferenceIdeal.Step.b21 j s := by
  unfold res_main_while0b_v22
  rw [row h, h.eq_held]
  rfl

theorem v24 (h : Holds V0 s j) : res_main_while0b_v24 V0 = Cert.ReferenceIdeal.Step.b23 j s := by
  unfold res_main_while0b_v24
  rw [v22 h, h.eq_held]
  rfl

theorem indices (h : Holds V0 s j) : res_main_while0b_indices V0 = Cert.ReferenceIdeal.Step.b25 j s := by
  unfold res_main_while0b_indices
  rw [v24 h, h.eq_held]
  rfl

theorem v27 (h : Holds V0 s j) : res_main_while0b_v27 V0 = Cert.ReferenceIdeal.Step.b29 j s := by
  unfold res_main_while0b_v27
  rw [h.eq_held]
  rfl

theorem v43 (h : Holds V0 s j) : res_main_while0b_v43 V0 = Cert.ReferenceIdeal.Step.b50 j s := by
  unfold res_main_while0b_v43
  rw [v27 h, indices h, h.eq_held]
  rfl

theorem v50 (h : Holds V0 s j) : res_main_while0b_v50 V0 = Cert.ReferenceIdeal.Step.b59 j s := by
  unfold res_main_while0b_v50
  rw [v22 h, h.eq_held]
  rfl

theorem v54 (h : Holds V0 s j) : res_main_while0b_v54 V0 = Cert.ReferenceIdeal.Step.b64 j s := by
  unfold res_main_while0b_v54
  rw [v50 h, h.eq_held]
  rfl

theorem v59 (h : Holds V0 s j) : res_main_while0b_v59 V0 = Cert.ReferenceIdeal.Step.b69 j s := by
  unfold res_main_while0b_v59
  rw [indices h, h.eq_held]
  rfl

theorem call2_v5 (h : Holds V0 s j) : res_main_while0b_call2_v5 V0 = Cert.ReferenceIdeal.Step.b79 j s := by
  unfold res_main_while0b_call2_v5
  rw [v59 h, h.eq_held]
  rfl

theorem v62 (h : Holds V0 s j) : res_main_while0b_v62 V0 = Cert.ReferenceIdeal.Step.b94 j s := by
  unfold res_main_while0b_v62
  rw [call2_v5 h, v54 h, h.eq_held]
  rfl

theorem v71 (h : Holds V0 s j) : res_main_while0b_v71 V0 = Cert.ReferenceIdeal.Step.b104 j s := by
  unfold res_main_while0b_v71
  rw [row h, v54 h, v43 h, h.eq_held]
  rfl

theorem v78 (h : Holds V0 s j) : res_main_while0b_v78 V0 = Cert.ReferenceIdeal.Step.b113 j s := by
  unfold res_main_while0b_v78
  rw [v71 h, h.eq_held]
  rfl

theorem v86 (h : Holds V0 s j) : res_main_while0b_v86 V0 = Cert.ReferenceIdeal.Step.b121 j s := by
  unfold res_main_while0b_v86
  rw [v78 h, v71 h, h.eq_held]
  rfl

theorem v88 (h : Holds V0 s j) : res_main_while0b_v88 V0 = Cert.ReferenceIdeal.Step.b123 j s := by
  unfold res_main_while0b_v88
  rw [v78 h, v86 h, h.eq_held]
  rfl

theorem v89 (h : Holds V0 s j) : res_main_while0b_v89 V0 = Cert.ReferenceIdeal.Step.b124 j s := by
  unfold res_main_while0b_v89
  rw [v43 h, h.eq_held]
  rfl

theorem v96 (h : Holds V0 s j) : res_main_while0b_v96 V0 = Cert.ReferenceIdeal.Step.b132 j s := by
  unfold res_main_while0b_v96
  rw [v89 h, v88 h, h.eq_held]
  rfl

theorem v111 (h : Holds V0 s j) : res_main_while0b_v111 V0 = Cert.ReferenceIdeal.Step.b148 j s := by
  unfold res_main_while0b_v111
  rw [v96 h, h.eq_held]
  rfl

theorem v118 (h : Holds V0 s j) : res_main_while0b_v118 V0 = Cert.ReferenceIdeal.Step.b157 j s := by
  unfold res_main_while0b_v118
  rw [v111 h, h.eq_held]
  rfl

/-! One trip's step of the carried values is `step`, field by field; a counter steps to the next number. -/

theorem step_13 (h : Holds V0 s j) : step_main_v3_13 V0 = (step j s).main_v3_13 := by
  unfold step_main_v3_13
  rw [v89 h, v118 h, v96 h, v43 h, h.eq_held]
  rfl

theorem step_14 (h : Holds V0 s j) : step_main_v3_14 V0 = (step j s).main_v3_14 := by
  unfold step_main_v3_14
  rw [v89 h, v86 h, h.eq_held]
  rfl

theorem step_15 (h : Holds V0 s j) : step_main_v3_15 V0 = (step j s).main_v3_15 := by
  unfold step_main_v3_15
  rw [v62 h, h.n_12, h.eq_held]
  rfl

theorem step_16 (h : Holds V0 s j) : step_main_v3_16 V0 = (step j s).main_v3_16 := by
  unfold step_main_v3_16
  rw [v59 h, h.n_12, h.eq_held]
  rfl

theorem step_12 (h : Holds V0 s j) : step_main_v3_12 V0 = constantI S_ 32 (BitVec.ofNat 32 (j + 1)) := by
  unfold step_main_v3_12
  rw [h.n_12]
  funext i
  show BitVec.ofNat 32 j + 1#32 = BitVec.ofNat 32 (j + 1)
  simp only [BitVec.ofNat_add]

theorem out_main_v4_holds (h : Holds V0 s j) : out_main_v4 V0 = Cert.ReferenceIdeal.Step.R_main_v4 s := by
  unfold out_main_v4 Cert.ReferenceIdeal.Step.R_main_v4
  rw [h.f_15]
  try rfl

theorem out_main_v5_holds (h : Holds V0 s j) : out_main_v5 V0 = Cert.ReferenceIdeal.Step.R_main_v5 s := by
  unfold out_main_v5 Cert.ReferenceIdeal.Step.R_main_v5
  rw [h.f_16]
  try rfl

/-- One trip keeps the valuation holding: `step` of the state, the same set-up values, the next number. -/
theorem holds_step (h : Holds V0 s j) : Holds (STEP V0) (step j s) (j + 1) where
  f_13 := (STEP_main_v3_13 V0).trans (step_13 h)
  f_14 := (STEP_main_v3_14 V0).trans (step_14 h)
  f_15 := (STEP_main_v3_15 V0).trans (step_15 h)
  f_16 := (STEP_main_v3_16 V0).trans (step_16 h)
  n_12 := (STEP_main_v3_12 V0).trans (step_12 h)
  f_0 := (STEP_main_v3_0 V0).trans h.f_0
  f_1 := (STEP_main_v3_1 V0).trans h.f_1
  f_2 := (STEP_main_v3_2 V0).trans h.f_2
  f_3 := (STEP_main_v3_3 V0).trans h.f_3
  f_4 := (STEP_main_v3_4 V0).trans h.f_4
  f_5 := (STEP_main_v3_5 V0).trans h.f_5
  f_6 := (STEP_main_v3_6 V0).trans h.f_6
  f_7 := (STEP_main_v3_7 V0).trans h.f_7
  f_8 := (STEP_main_v3_8 V0).trans h.f_8
  f_9 := (STEP_main_v3_9 V0).trans h.f_9
  f_10 := (STEP_main_v3_10 V0).trans h.f_10
  f_11 := (STEP_main_v3_11 V0).trans h.f_11

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg0))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v4) = Cert.ReferenceIdeal.Step.R_main_v4 (it c 2048)
      ∧ r.2.mem ((c.tc : Thread nD τ).loc main_v5) = Cert.ReferenceIdeal.Step.R_main_v5 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    have hk := holds_iter m c (it c) (h0 c) (hs c) 2048
    ⟨(h c).1.trans (out_main_v4_holds hk), (h c).2.1.trans (out_main_v5_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩) (Value.run m ρ)

end Cert.ReferenceIdeal.Trips

end
-- ==== Proof.Reference.Results.lean ====
/- The reference's results over all steps: iterating its step from the arguments, the carried state and the two result
   arrays are the recurrence's, row by row. -/
module

public import proofs.«01_k».proof.Proof.Sequence
public import proofs.«01_k».proof.Proof.Rows
public import proofs.«01_k».proof.Proof.Reference.Update
public import proofs.«01_k».proof.Proof.Reference.Trips

@[expose] public section

set_option maxRecDepth 16384

noncomputable section

namespace Cert.ReferenceIdeal.Results

open Idealize.ShloMosaic Idealize.ShloMosaic.TcCoe Idealize.SL.Sem Cert.ReferenceIdeal Cert.ReferenceIdeal.Gen Cert.ReferenceIdeal.Step
open Cert.ReferenceIdeal.Entries

variable (n : ℕ) (s : State Ideal)

theorem row_at (hn : n < 2048) (d : Fin 1024) : b2 n s (ix3 0 0 d) = s.main_v3_0 (ix3 ⟨n, hn⟩ 0 d) :=
  Rows.slice3 (w := 1024) s.main_v3_0 _ sliceFits_S2048x1x1024_S1x1x1024 n hn (toInt_ofNat_of_lt (by omega)) rfl rfl d

/-- The input's row and the row of zeros. -/
theorem both_at (hn : n < 2048) (a : Fin 2) (d : Fin 1024) :
    b7 n s (ix3 0 a d) = if a.val < 1 then s.main_v3_0 (ix3 ⟨n, hn⟩ 0 d) else 0 := by
  have hr := row_at n s hn d
  unfold b7 b6 b5 b4 b3
  generalize b2 n s = x at hr ⊢
  pointwise [hr]
  exact dite_eq_ite

theorem keys_at (hn : n < 2048) (a : Fin 2) (j : Fin 64) :
    b11 n s (ix3 0 a j) = Spec.projected (fun d => s.main_v3_0 (ix3 ⟨n, hn⟩ 0 d)) (fun d k => s.main_v3_1 (ix2 d k)) (fun k => s.main_v3_2 (ix1 k)) a j := by
  have hb := both_at n s hn
  unfold b11 b10 b9 b8 Spec.projected
  generalize b7 n s = x at hb ⊢
  pointwise [hb]

theorem values_at (hn : n < 2048) (a : Fin 2) (j : Fin 400) :
    b15 n s (ix3 0 a j) = Spec.projected (fun d => s.main_v3_0 (ix3 ⟨n, hn⟩ 0 d)) (fun d k => s.main_v3_3 (ix2 d k)) (fun k => s.main_v3_4 (ix1 k)) a j := by
  have hb := both_at n s hn
  unfold b15 b14 b13 b12 Spec.projected
  generalize b7 n s = x at hb ⊢
  pointwise [hb]

/-- A step writes its two results into its own row. -/
theorem weights_written (hn : n < 2048) (r : Fin 2048) (i : Fin 2) :
    b192 n s (ix2 r i) = if r.val = n then Spec.weight (params s) (matK n s) (matH s) i else s.main_v3_15 (ix2 r i) := by
  rw [show b192 n s (ix2 r i) = if r.val = n then b190 n s (ix2 0 i) else s.main_v3_15 (ix2 r i) from
    Rows.update2 (w := 2) s.main_v3_15 _ _ updateFits_S2048x2_S1x2 n hn (toInt_ofNat_of_lt (by omega)) rfl r i, ← weight_at n s i]
  unfold b190 b188
  generalize b99 n s = x
  pointwise

theorem experts_written (hn : n < 2048) (r : Fin 2048) (i : Fin 2) :
    b195 n s (ix2 r i) = if r.val = n then Spec.expert (params s) (matK n s) (matH s) i else s.main_v3_16 (ix2 r i) := by
  rw [show b195 n s (ix2 r i) = if r.val = n then b193 n s (ix2 0 i) else s.main_v3_16 (ix2 r i) from
    Rows.update2 (w := 2) s.main_v3_16 _ _ updateFits_S2048x2_S1x2 n hn (toInt_ofNat_of_lt (by omega)) rfl r i, ← sorted_at n s i]
  unfold b193 b189
  generalize b69 n s = x
  pointwise

/-! ## Along the run -/

section
variable (d : Spec.Data)

/-- The state before step `n` is the recurrence's: the arguments unchanged, the carried pair, and the results of the earlier
    steps in their rows. -/
structure Agrees : Prop where
  p : params s = d.p
  x : ∀ r j, s.main_v3_0 (ix3 r 0 j) = d.x r j
  wk : ∀ a b, s.main_v3_1 (ix2 a b) = d.wk a b
  bk : ∀ b, s.main_v3_2 (ix1 b) = d.bk b
  wv : ∀ a b, s.main_v3_3 (ix2 a b) = d.wv a b
  bv : ∀ b, s.main_v3_4 (ix1 b) = d.bv b
  h : matH s = (d.state n).1
  c : matC s = (d.state n).2
  w : ∀ r : Fin 2048, r.val < n → ∀ i, s.main_v3_15 (ix2 r i) = d.weights r.val i
  e : ∀ r : Fin 2048, r.val < n → ∀ i, s.main_v3_16 (ix2 r i) = d.experts r.val i

variable {n s d}

theorem Agrees.K (ha : Agrees n s d) (hn : n < 2048) : matK n s = d.K n := by
  funext a j
  unfold matK Spec.Data.K Spec.Data.row
  rw [keys_at n s hn]
  simp only [ha.x, ha.wk, ha.bk, Nat.mod_eq_of_lt hn]
theorem Agrees.V (ha : Agrees n s d) (hn : n < 2048) : matV n s = d.V n := by
  funext a j
  unfold matV Spec.Data.V Spec.Data.row
  rw [values_at n s hn]
  simp only [ha.x, ha.wv, ha.bv, Nat.mod_eq_of_lt hn]

theorem step_params : params (step n s) = params s := by unfold step params; rfl
theorem step_0 : (step n s).main_v3_0 = s.main_v3_0 := by unfold step; rfl
theorem step_1 : (step n s).main_v3_1 = s.main_v3_1 := by unfold step; rfl
theorem step_2 : (step n s).main_v3_2 = s.main_v3_2 := by unfold step; rfl
theorem step_3 : (step n s).main_v3_3 = s.main_v3_3 := by unfold step; rfl
theorem step_4 : (step n s).main_v3_4 = s.main_v3_4 := by unfold step; rfl
theorem step_h (e : Fin 8) (j : Fin 128) : matH (step n s) e j = b179 n s (ix3 0 e j) := by unfold matH; rw [step_main_v3_13]
theorem step_c (e : Fin 8) (j : Fin 128) : matC (step n s) e j = b187 n s (ix3 0 e j) := by unfold matC; rw [step_main_v3_14]
theorem state_succ : d.state (n + 1)
    = (Spec.hNext d.p (d.K n) (d.V n) (d.state n).1 (d.state n).2, Spec.cNext d.p (d.K n) (d.V n) (d.state n).1 (d.state n).2) := rfl

theorem Agrees.next (ha : Agrees n s d) (hn : n < 2048) : Agrees (n + 1) (step n s) d := by
  refine ⟨?_, ?_, ?_, ?_, ?_, ?_, ?_, ?_, ?_, ?_⟩
  · rw [step_params]; exact ha.p
  · rw [step_0]; exact ha.x
  · rw [step_1]; exact ha.wk
  · rw [step_2]; exact ha.bk
  · rw [step_3]; exact ha.wv
  · rw [step_4]; exact ha.bv
  · funext e j
    rw [step_h, state_succ, hNext_at, ha.p, ha.K hn, ha.V hn, ha.h, ha.c]
  · funext e j
    rw [step_c, state_succ, cNext_at, ha.p, ha.K hn, ha.V hn, ha.h, ha.c]
  · intro r hr i
    rw [step_main_v3_15, weights_written n s hn, ha.p, ha.K hn, ha.h]
    split
    · next he => rw [he]; rfl
    · exact ha.w r (by omega) i
  · intro r hr i
    rw [step_main_v3_16, experts_written n s hn, ha.p, ha.K hn, ha.h]
    split
    · next he => rw [he]; rfl
    · exact ha.e r (by omega) i
end

/-- The arguments as matrices. -/
def dataOf (m : (ℓ : Loc nD τ sig) → Buf (Elt Ideal) ℓ) (c : Dev nD) : Spec.Data :=
  Spec.data (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

variable (m : (ℓ : Loc nD τ sig) → Buf (Elt Ideal) ℓ) (c : Dev nD)

theorem input_at (x : FVec Ideal S1x2048x1024 .f32) (r : Fin 2048) (j : Fin 1024) : A_main_v0 (F := Ideal) x (ix3 r 0 j) = x (ix3 0 r j) := by
  pointwise [A_main_v0]

theorem agrees_first : Agrees 0 (Trips.initState m c) (dataOf m c) where
  p := rfl
  x r j := input_at _ r j
  wk _ _ := rfl
  bk _ := rfl
  wv _ _ := rfl
  bv _ := rfl
  h := rfl
  c := rfl
  w _ hr := absurd hr (Nat.not_lt_zero _)
  e _ hr := absurd hr (Nat.not_lt_zero _)

/-- The reference's states. -/
def it (c : Dev nD) : ℕ → State Ideal
  | 0 => Trips.initState m c
  | n + 1 => step n (it c n)

theorem agrees : ∀ n, n ≤ 2048 → Agrees n (it m c n) (dataOf m c)
  | 0, _ => agrees_first m c
  | n + 1, hn => (agrees n (by omega)).next (by omega)

/-- The results, element by element. -/
theorem weights_result (q : Fin 4096) :
    R_main_v4 (it m c 2048) (ix1 q) = (dataOf m c).weights (q.val / 2) ⟨q.val % 2, Nat.mod_lt _ (by decide)⟩ := by
  have h := (agrees m c 2048 le_rfl).w ⟨q.val / 2, by omega⟩ (by show q.val / 2 < 2048; omega) ⟨q.val % 2, Nat.mod_lt _ (by decide)⟩
  rw [← h]
  generalize it m c 2048 = s
  pointwise [R_main_v4]
theorem experts_result (q : Fin 4096) :
    R_main_v5 (it m c 2048) (ix1 q) = (dataOf m c).experts (q.val / 2) ⟨q.val % 2, Nat.mod_lt _ (by decide)⟩ := by
  have h := (agrees m c 2048 le_rfl).e ⟨q.val / 2, by omega⟩ (by show q.val / 2 < 2048; omega) ⟨q.val % 2, Nat.mod_lt _ (by decide)⟩
  rw [← h]
  generalize it m c 2048 = s
  pointwise [R_main_v5]

end Cert.ReferenceIdeal.Results

end
-- ==== Proof.Agreement.lean ====
/- The kernel and the reference end with the same two results: both are the recurrence's, element by element, and the
   two programs' arguments are the same. -/
module

public import proofs.«01_k».proof.Defs
public import proofs.«01_k».proof.Proof.Finite
public import proofs.«01_k».proof.Proof.KernelIdeal.Results
public import proofs.«01_k».proof.Proof.Reference.Results

@[expose] public section

set_option maxRecDepth 16384

noncomputable section

namespace Cert.Agreement

open Idealize.ShloMosaic Idealize.ShloMosaic.TcCoe Idealize.SL.Sem

/-- The kernel's run: its two results, its arguments unchanged. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v19) = KernelIdeal.Run.final m g c (Proc.devRef .tc KernelIdeal.main_v19)
      ∧ r.2.mem ((c.tc : Thread KernelIdeal.nD KernelIdeal.τ).loc KernelIdeal.main_v21) = KernelIdeal.Run.final m g c (Proc.devRef .tc KernelIdeal.main_v21)
      ∧ ∀ a ∈ KernelIdeal.Run.argRefs, r.2.mem ((c.tc : Thread KernelIdeal.nD KernelIdeal.τ).loc a) = m ((c.tc : Thread KernelIdeal.nD KernelIdeal.τ).loc a)) :=
  (θ_run KernelIdeal.defs _ _).mono (fun _ h c =>
    ⟨h.1 c _ (KernelIdeal.Run.mem_uc KernelIdeal.main_v19 (by decide)), h.1 c _ (KernelIdeal.Run.mem_uc KernelIdeal.main_v21 (by decide)),
      fun a ha => (h.1 c _ (KernelIdeal.Run.mem_uc a (by revert a; decide))).trans (KernelIdeal.Run.final_args m g c a ha)⟩)
    (KernelIdeal.Run.run_main_quiescent m g)

/-- Vectors of 4096 elements are equal if their elements are. -/
theorem ext1 {α : Type} (x y : Shape.Idx ⟨1, ![4096]⟩ → α) (h : ∀ q : Fin 4096, x (ix1 q) = y (ix1 q)) : x = y := by
  funext i
  have hi : i = ix1 (i 0) := funext fun a => by
    obtain rfl : a = 0 := Subsingleton.elim a 0
    rfl
  rw [hi]
  exact h (i 0)

variable [Cert.Pre_finite_arguments.Facts]

theorem algebraic : Cert.algebraic_KernelIdeal_ReferenceIdeal := by
  intro m g m' g' hpre hargs
  have hd (c : Dev KernelIdeal.nD) : ReferenceIdeal.Results.dataOf m' c = KernelIdeal.Results.dataOf m c := by
    obtain ⟨h0, h1, h2, h3, h4, h5, h6, h7, h8, h9, h10, h11, h12, h13⟩ := hargs c
    unfold ReferenceIdeal.Results.dataOf KernelIdeal.Results.dataOf
    rw [h0, h1, h2, h3, h4, h5, h6, h7, h8, h9, h10, h11, h12, h13]
  refine ⟨fun c => KernelIdeal.Run.final m g c (Proc.devRef .tc KernelIdeal.main_v19), fun c => KernelIdeal.Run.final m g c (Proc.devRef .tc KernelIdeal.main_v21), ?_, ?_⟩
  · refine (θ_run KernelIdeal.defs _ _).mono (fun _ h c => ?_) (kernel_run m g)
    obtain ⟨hw, he, ha⟩ := h c
    exact ⟨hw, he, ha _ (by decide), ha _ (by decide), ha _ (by decide), ha _ (by decide), ha _ (by decide), ha _ (by decide), ha _ (by decide),
      ha _ (by decide), ha _ (by decide), ha _ (by decide), ha _ (by decide), ha _ (by decide), ha _ (by decide), ha _ (by decide)⟩
  · refine (θ_run ReferenceIdeal.defs _ _).mono (fun _ h c => ?_)
      (ReferenceIdeal.Trips.run_iter m' g' (ReferenceIdeal.Results.it m') (fun _ => rfl) (fun _ _ => rfl))
    obtain ⟨hw, he, ha⟩ := h c
    refine ⟨hw.trans ?_, he.trans ?_, ha⟩
    · exact ext1 _ _ fun q => (ReferenceIdeal.Results.weights_result m' c q).trans ((congrArg (fun d : Spec.Data => d.weights (q.val / 2) ⟨q.val % 2, Nat.mod_lt _ (by decide)⟩) (hd c)).trans
        (KernelIdeal.Results.weights_result m g c (Finite.isReal m hpre c) q).symm)
    · exact ext1 _ _ fun q => (ReferenceIdeal.Results.experts_result m' c q).trans ((congrArg (fun d : Spec.Data => d.experts (q.val / 2) ⟨q.val % 2, Nat.mod_lt _ (by decide)⟩) (hd c)).trans
        (KernelIdeal.Results.experts_result m g c (Finite.isReal m hpre c) q).symm)

end Cert.Agreement

end
-- ==== Proof.lean ====
/- The certificate: the kernel, its ideal reading and the reference run to an end and leave their arguments and counters
   as they should; where the arguments that steer the routing are finite, the kernel's and the reference's results are
   equal. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Step
public import proofs.«01_k».proof.Proof.Kernel.Frame
public import proofs.«01_k».proof.Proof.KernelIdeal.Launch
public import proofs.«01_k».proof.Proof.Reference.Frame
public import proofs.«01_k».proof.Proof.Finite
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts, Cert.Finite.facts, by
  exact ⟨fun m ρ _ => Cert.Kernel.Run.frame m ρ, fun m ρ _ => Cert.KernelIdeal.Run.frame m ρ, fun m ρ _ => Cert.KernelIdeal.Run.frame m ρ,
    fun m ρ _ => Cert.ReferenceIdeal.Frame.frame m ρ, fun m ρ _ => Cert.ReferenceIdeal.Frame.frame m ρ, trivial,
    @Cert.Agreement.algebraic Cert.Finite.facts⟩⟩

end Cert.Proof

end
